-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_inputs_as_drawn : Cert.Pre_inputs_as_drawn.Facts),
    quiescent_Kernel (hKernel := hKernel)
    ∧ quiescent_KernelIdeal (hKernelIdeal := hKernelIdeal)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S1x2048x768 : Shape := ⟨3, ![1, 2048, 768]⟩
abbrev S1 : Shape := ⟨1, ![1]⟩
abbrev S1x1 : Shape := ⟨2, ![1, 1]⟩
abbrev S2x8 : Shape := ⟨2, ![2, 8]⟩
abbrev S2x768x8 : Shape := ⟨3, ![2, 768, 8]⟩
abbrev S8x768x768 : Shape := ⟨3, ![8, 768, 768]⟩
abbrev S8x768 : Shape := ⟨2, ![8, 768]⟩
abbrev S768 : Shape := ⟨1, ![768]⟩
abbrev S768x1 : Shape := ⟨2, ![768, 1]⟩
abbrev S_ : Shape := ⟨0, ![]⟩

class Facts : Prop where
  bcast_S_S1 : S_.BroadcastsInDim S1 (![] : Fin 0 → Fin S1.rank)
  bcast_S_S8x768 : S_.BroadcastsInDim S8x768 (![] : Fin 0 → Fin S8x768.rank)

variable [Facts]

def fn {F : FTy → Type} [FloatOps F] (main_arg0 : FVec F S1x2048x768 .f32) (main_arg1 : IVec S1 32) (main_arg2 : FVec F S1x1 .f32) (main_arg3 : FVec F S2x8 .f32) (main_arg4 : FVec F S2x768x8 .f32) (main_arg5 : FVec F S2x8 .f32) (main_arg6 : FVec F S8x768x768 .f32) (main_arg7 : FVec F S8x768 .f32) (main_arg8 : FVec F S8x768x768 .f32) (main_arg9 : FVec F S8x768 .f32) (main_arg10 : FVec F S768 .f32) (main_arg11 : FVec F S768 .f32) (main_arg12 : FVec F S768x1 .f32) (main_arg13 : FVec F S1 .f32) : IVec S1 1 × IVec S8x768 1 × IVec S8x768 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 2#32
  let main_v2 : IVec S1 32 := broadcastInDim S1 ![] bcast_S_S1 main_c_0
  let main_v3 : IVec S1 1 := cmpi .slt main_arg1 main_v2
  let main_v4 : IVec S1 1 := andi main_v1 main_v3
  let main_cst : FVec F S_ .f32 := constant S_ .f32 0x00000000#32
  let main_v5 : FVec F S8x768 .f32 := broadcastInDim S8x768 ![] bcast_S_S8x768 main_cst
  let main_v6 : IVec S8x768 1 := cmpf .oeq main_arg7 main_v5
  let main_cst_1 : FVec F S_ .f32 := constant S_ .f32 0x00000000#32
  let main_v7 : FVec F S8x768 .f32 := broadcastInDim S8x768 ![] bcast_S_S8x768 main_cst_1
  let main_v8 : IVec S8x768 1 := cmpf .oeq main_arg9 main_v7
  (main_v4, main_v6, main_v8)
-- ==== Kernel.lean ====
abbrev S1x2048x768 : Shape := ⟨3, ![1, 2048, 768]⟩
abbrev S1 : Shape := ⟨1, ![1]⟩
abbrev S1x1 : Shape := ⟨2, ![1, 1]⟩
abbrev S2x8 : Shape := ⟨2, ![2, 8]⟩
abbrev S2x768x8 : Shape := ⟨3, ![2, 768, 8]⟩
abbrev S8x768x768 : Shape := ⟨3, ![8, 768, 768]⟩
abbrev S8x768 : Shape := ⟨2, ![8, 768]⟩
abbrev S768 : Shape := ⟨1, ![768]⟩
abbrev S768x1 : Shape := ⟨2, ![768, 1]⟩
abbrev S1x768 : Shape := ⟨2, ![1, 768]⟩
abbrev S1x768x768 : Shape := ⟨3, ![1, 768, 768]⟩
abbrev S768x768 : Shape := ⟨2, ![768, 768]⟩
abbrev S1x1024x768 : Shape := ⟨3, ![1, 1024, 768]⟩
abbrev S1024x768 : Shape := ⟨2, ![1024, 768]⟩
abbrev S8 : Shape := ⟨1, ![8]⟩
abbrev S1x8 : Shape := ⟨2, ![1, 8]⟩
abbrev S1x1x8 : Shape := ⟨3, ![1, 1, 8]⟩
abbrev S1x1x1 : Shape := ⟨3, ![1, 1, 1]⟩
abbrev S1x1x768 : Shape := ⟨3, ![1, 1, 768]⟩

abbrev nBuf : Space → Nat
  | .hbm => 16
  | .vmem => 11
  | .smem => 2
  | _ => 0

abbrev bufTy : (tb : Table) → Fin (tcTables nBuf tb) → BufTy
  | .hbm, ⟨0, _⟩ => ⟨S1x2048x768, .f32⟩
  | .hbm, ⟨1, _⟩ => ⟨S1x1, .f32⟩
  | .hbm, ⟨2, _⟩ => ⟨S2x8, .f32⟩
  | .hbm, ⟨3, _⟩ => ⟨S2x768x8, .f32⟩
  | .hbm, ⟨4, _⟩ => ⟨S2x8, .f32⟩
  | .hbm, ⟨5, _⟩ => ⟨S8x768x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S768, .f32⟩
  | .hbm, ⟨10, _⟩ => ⟨S768, .f32⟩
  | .hbm, ⟨11, _⟩ => ⟨S768x1, .f32⟩
  | .hbm, ⟨12, _⟩ => ⟨S1, .f32⟩
  | .hbm, ⟨13, _⟩ => ⟨S1x768, .f32⟩
  | .hbm, ⟨14, _⟩ => ⟨S1x768, .f32⟩
  | .hbm, ⟨15, _⟩ => ⟨S1x1, .f32⟩
  | .local _ .vmem, ⟨0, _⟩ => ⟨S1x2048x768, .f32⟩
  | .local _ .vmem, ⟨1, _⟩ => ⟨S1x768x768, .f32⟩
  | .local _ .vmem, ⟨2, _⟩ => ⟨S1x768x768, .f32⟩
  | .local _ .vmem, ⟨3, _⟩ => ⟨S1x768x768, .f32⟩
  | .local _ .vmem, ⟨4, _⟩ => ⟨S1x768x768, .f32⟩
  | .local _ .vmem, ⟨5, _⟩ => ⟨S2x8, .f32⟩
  | .local _ .vmem, ⟨6, _⟩ => ⟨S1x768, .f32⟩
  | .local _ .vmem, ⟨7, _⟩ => ⟨S1x768, .f32⟩
  | .local _ .vmem, ⟨8, _⟩ => ⟨S768x1, .f32⟩
  | .local _ .vmem, ⟨9, _⟩ => ⟨S1x1, .f32⟩
  | .local _ .vmem, ⟨10, _⟩ => ⟨S1x768, .f32⟩
  | .local _ .smem, ⟨0, _⟩ => ⟨S1, .i32⟩
  | .local _ .smem, ⟨1, _⟩ => ⟨S1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_28 : BitVec 32 := 0#32
  let v61 : BitVec 1 := Scalar.cmpi .ne v60 c0_i32_28
  v61

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x2048x768 : Shape := ⟨3, ![1, 2048, 768]⟩
abbrev S1 : Shape := ⟨1, ![1]⟩
abbrev S1x1 : Shape := ⟨2, ![1, 1]⟩
abbrev S2x8 : Shape := ⟨2, ![2, 8]⟩
abbrev S2x768x8 : Shape := ⟨3, ![2, 768, 8]⟩
abbrev S8x768x768 : Shape := ⟨3, ![8, 768, 768]⟩
abbrev S8x768 : Shape := ⟨2, ![8, 768]⟩
abbrev S768 : Shape := ⟨1, ![768]⟩
abbrev S768x1 : Shape := ⟨2, ![768, 1]⟩
abbrev S2048x768 : Shape := ⟨2, ![2048, 768]⟩
abbrev S1x8 : Shape := ⟨2, ![1, 8]⟩
abbrev S8 : Shape := ⟨1, ![8]⟩
abbrev S_ : Shape := ⟨0, ![]⟩
abbrev S8x768x2048 : Shape := ⟨3, ![8, 768, 2048]⟩
abbrev S8x2048x768 : Shape := ⟨3, ![8, 2048, 768]⟩
abbrev S8x1x768 : Shape := ⟨3, ![8, 1, 768]⟩
abbrev S2x2048x768 : Shape := ⟨3, ![2, 2048, 768]⟩
abbrev S1x768 : Shape := ⟨2, ![1, 768]⟩

abbrev nBuf : Space → Nat
  | .hbm => 154
  | .vmem => 0
  | .smem => 0
  | _ => 0

abbrev hbmTy0_0 (i : Nat) : BufTy := match i % 128 with
  | 0 => ⟨S1x2048x768, .f32⟩
  | 1 => ⟨S1, .i32⟩
  | 2 => ⟨S1x1, .f32⟩
  | 3 => ⟨S2x8, .f32⟩
  | 4 => ⟨S2x768x8, .f32⟩
  | 5 => ⟨S2x8, .f32⟩
  | 6 => ⟨S8x768x768, .f32⟩
  | 7 => ⟨S8x768, .f32⟩
  | 8 => ⟨S8x768x768, .f32⟩
  | 9 => ⟨S8x768, .f32⟩
  | 10 => ⟨S768, .f32⟩
  | 11 => ⟨S768, .f32⟩
  | 12 => ⟨S768x1, .f32⟩
  | 13 => ⟨S1, .f32⟩
  | 14 => ⟨S2048x768, .f32⟩
  | 15 => ⟨S1x8, .f32⟩
  | 16 => ⟨S8, .f32⟩
  | 17 => ⟨S_, .f32⟩
  | 18 => ⟨S_, .f32⟩
  | 19 => ⟨S_, .f32⟩
  | 20 => ⟨S_, .f32⟩
  | 21 => ⟨S1, .f32⟩
  | 22 => ⟨S8, .f32⟩
  | 23 => ⟨S8, .f32⟩
  | 24 => ⟨S8, .f32⟩
  | 25 => ⟨S_, .f32⟩
  | 26 => ⟨S_, .f32⟩
  | 27 => ⟨S1, .f32⟩
  | 28 => ⟨S8, .f32⟩
  | 29 => ⟨S8, .f32⟩
  | 30 => ⟨S8x768x2048, .f32⟩
  | 31 => ⟨S8x2048x768, .f32⟩
  | 32 => ⟨S8x1x768, .f32⟩
  | 33 => ⟨S8x2048x768, .f32⟩
  | 34 => ⟨S8x2048x768, .f32⟩
  | 35 => ⟨S_, .f32⟩
  | 36 => ⟨S8x2048x768, .f32⟩
  | 37 => ⟨S8x2048x768, .f32⟩
  | 38 => ⟨S8x2048x768, .f32⟩
  | 39 => ⟨S8x1x768, .f32⟩
  | 40 => ⟨S8x2048x768, .f32⟩
  | 41 => ⟨S8x2048x768, .f32⟩
  | 42 => ⟨S2048x768, .f32⟩
  | 43 => ⟨S1x8, .f32⟩
  | 44 => ⟨S8, .f32⟩
  | 45 => ⟨S_, .f32⟩
  | 46 => ⟨S_, .f32⟩
  | 47 => ⟨S_, .f32⟩
  | 48 => ⟨S_, .f32⟩
  | 49 => ⟨S1, .f32⟩
  | 50 => ⟨S8, .f32⟩
  | 51 => ⟨S8, .f32⟩
  | 52 => ⟨S8, .f32⟩
  | 53 => ⟨S_, .f32⟩
  | 54 => ⟨S_, .f32⟩
  | 55 => ⟨S1, .f32⟩
  | 56 => ⟨S8, .f32⟩
  | 57 => ⟨S8, .f32⟩
  | 58 => ⟨S8x768x2048, .f32⟩
  | 59 => ⟨S8x2048x768, .f32⟩
  | 60 => ⟨S8x1x768, .f32⟩
  | 61 => ⟨S8x2048x768, .f32⟩
  | 62 => ⟨S8x2048x768, .f32⟩
  | 63 => ⟨S_, .f32⟩
  | 64 => ⟨S8x2048x768, .f32⟩
  | 65 => ⟨S8x2048x768, .f32⟩
  | 66 => ⟨S8x2048x768, .f32⟩
  | 67 => ⟨S8x1x768, .f32⟩
  | 68 => ⟨S8x2048x768, .f32⟩
  | 69 => ⟨S8x2048x768, .f32⟩
  | 70 => ⟨S2048x768, .f32⟩
  | 71 => ⟨S1x2048x768, .f32⟩
  | 72 => ⟨S1x2048x768, .f32⟩
  | 73 => ⟨S2x2048x768, .f32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S1x2048x768, .f32⟩
  | 97 => ⟨S2048x768, .f32⟩
  | 98 => ⟨S1x2048x768, .f32⟩
  | 99 => ⟨S_, .f32⟩
  | 100 => ⟨S1x768, .f32⟩
  | 101 => ⟨S_, .f32⟩
  | 102 => ⟨S1, .f32⟩
  | 103 => ⟨S1x1, .f32⟩
  | 104 => ⟨S_, .f32⟩
  | 105 => ⟨S1x1, .f32⟩
  | 106 => ⟨S1x1, .f32⟩
  | 107 => ⟨S_, .i32⟩
  | 108 => ⟨S_, .f32⟩
  | 109 => ⟨S1, .f32⟩
  | 110 => ⟨S1x1, .f32⟩
  | 111 => ⟨S_, .f32⟩
  | 112 => ⟨S1x1, .f32⟩
  | 113 => ⟨S1x1, .f32⟩
  | 114 => ⟨S1x768, .f32⟩
  | 115 => ⟨S1x768, .f32⟩
  | 116 => ⟨S1x768, .f32⟩
  | 117 => ⟨S_, .f32⟩
  | 118 => ⟨S_, .f32⟩
  | 119 => ⟨S_, .f32⟩
  | 120 => ⟨S_, .f32⟩
  | 121 => ⟨S1, .f32⟩
  | 122 => ⟨S1x1, .f32⟩
  | 123 => ⟨S1x1, .f32⟩
  | 124 => ⟨S1x1, .f32⟩
  | 125 => ⟨S_, .f32⟩
  | 126 => ⟨S_, .i1⟩
  | 127 => ⟨S_, .f32⟩
  | _ => ⟨S1x2048x768, .f32⟩

abbrev hbmTy0_1 (i : Nat) : BufTy := match i % 128 with
  | 0 => ⟨S_, .f32⟩
  | 1 => ⟨S1x1, .f32⟩
  | 2 => ⟨S1x1, .f32⟩
  | 3 => ⟨S1x768, .f32⟩
  | 4 => ⟨S1x768, .f32⟩
  | 5 => ⟨S_, .f32⟩
  | 6 => ⟨S1x1, .f32⟩
  | 7 => ⟨S1x1, .f32⟩
  | 8 => ⟨S1x1, .f32⟩
  | 9 => ⟨S1x768, .f32⟩
  | 10 => ⟨S1x768, .f32⟩
  | 11 => ⟨S1x768, .f32⟩
  | 12 => ⟨S1x768, .f32⟩
  | 13 => ⟨S1x768, .f32⟩
  | 14 => ⟨S1x768, .f32⟩
  | 15 => ⟨S1x1, .f32⟩
  | 16 => ⟨S1x1, .f32⟩
  | 17 => ⟨S1x1, .f32⟩
  | 18 => ⟨S1x1, .f32⟩
  | 19 => ⟨S1x1, .f32⟩
  | 20 => ⟨S_, .f32⟩
  | 21 => ⟨S1x1, .f32⟩
  | 22 => ⟨S1x1, .f32⟩
  | 23 => ⟨S_, .f32⟩
  | 24 => ⟨S1x1, .f32⟩
  | 25 => ⟨S1x1, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_c_9 : Ref sig .tc := ⟨.hbm, 81, rfl⟩
abbrev main_v56 : Ref sig .tc := ⟨.hbm, 82, rfl⟩
abbrev main_c_10 : Ref sig .tc := ⟨.hbm, 83, rfl⟩
abbrev main_c_11 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_c_13 : Ref sig .tc := ⟨.hbm, 88, rfl⟩
abbrev main_c_14 : Ref sig .tc := ⟨.hbm, 89, rfl⟩
abbrev main_v59 : Ref sig .tc := ⟨.hbm, 90, rfl⟩
abbrev main_c_15 : Ref sig .tc := ⟨.hbm, 91, rfl⟩
abbrev main_c_16 : Ref sig .tc := ⟨.hbm, 92, rfl⟩
abbrev main_v60 : Ref sig .tc := ⟨.hbm, 93, rfl⟩
abbrev main_c_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_18 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_c_21 : Ref sig .tc := ⟨.hbm, 107, rfl⟩
abbrev main_call0_cst : Ref sig .tc := ⟨.hbm, 108, rfl⟩
abbrev main_call0_v0 : Ref sig .tc := ⟨.hbm, 109, rfl⟩
abbrev main_call0_v1 : Ref sig .tc := ⟨.hbm, 110, rfl⟩
abbrev main_call0_cst_0 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_v5 : Ref sig .tc := ⟨.hbm, 115, rfl⟩
abbrev main_call0_v6 : Ref sig .tc := ⟨.hbm, 116, rfl⟩
abbrev main_call0_v7 : Ref sig .tc := ⟨.hbm, 117, rfl⟩
abbrev main_call0_cst_1 : Ref sig .tc := ⟨.hbm, 118, rfl⟩
abbrev main_call0_v8 : Ref sig .tc := ⟨.hbm, 119, rfl⟩
abbrev main_call0_cst_2 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_call0_v12 : Ref sig .tc := ⟨.hbm, 124, rfl⟩
abbrev main_call0_cst_3 : Ref sig .tc := ⟨.hbm, 125, rfl⟩
abbrev main_call0_v13 : Ref sig .tc := ⟨.hbm, 126, rfl⟩
abbrev main_call0_cst_4 : Ref sig .tc := ⟨.hbm, 127, rfl⟩
abbrev main_call0_call0_v0 : Ref sig .tc := ⟨.hbm, 128, rfl⟩
abbrev main_call0_call0_v1 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_22 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_23 : Ref sig .tc := ⟨.hbm, 148, rfl⟩
abbrev main_v87 : Ref sig .tc := ⟨.hbm, 149, rfl⟩
abbrev main_v88 : Ref sig .tc := ⟨.hbm, 150, rfl⟩
abbrev main_cst_24 : Ref sig .tc := ⟨.hbm, 151, rfl⟩
abbrev main_v89 : Ref sig .tc := ⟨.hbm, 152, rfl⟩
abbrev main_v90 : Ref sig .tc := ⟨.hbm, 153, rfl⟩

abbrev nD : Nat := 1
abbrev τ : Topo := Topo.v7x

variable {F : FTy → Type} [FloatOps F]
-- ==== Proof.Inputs.lean ====
/-
  What the precondition says of the arguments, by coordinates: the task index is 0 or 1, and both bias arrays are zero.
-/
module

public import proofs.«01_k».proof.Defs
public import Idealize.ShloMosaic.Lib.IdealHost
public import Idealize.ShloMosaic.Lib.Pointwise

@[expose] public section

set_option maxRecDepth 16384

noncomputable section

namespace Cert.Moe

open Idealize.ShloMosaic

/-- The side conditions of the precondition: its broadcasts are of scalars. -/
theorem preFacts : Cert.Pre_inputs_as_drawn.Facts where
  bcast_S_S1 := by decide
  bcast_S_S8x768 := by decide

/-- A word between 0 and 2, both read signed, is 0 or 1. -/
theorem word_of_range (w : BitVec 32) (h0 : IntOp.andi (IntOp.cmpi .sge w 0#32) (IntOp.cmpi .slt w 2#32) = 1#1) :
    w = BitVec.ofNat 32 0 ∨ w = BitVec.ofNat 32 1 := by
  have h : (0#32).sle w = true ∧ w.slt 2#32 = true := by
    have e : BitVec.ofBool ((0#32).sle w) &&& BitVec.ofBool (w.slt 2#32) = 1#1 := h0
    generalize (0#32).sle w = a at e ⊢
    generalize w.slt 2#32 = b at e ⊢
    revert a b
    decide
  have hl : 0 ≤ w.toInt := by simpa [BitVec.sle] using h.1
  have hu : w.toInt < 2 := by simpa [BitVec.slt] using h.2
  rcases (by omega : w.toInt = 0 ∨ w.toInt = 1) with e | e
  · exact Or.inl (BitVec.eq_of_toInt_eq e)
  · exact Or.inr (BitVec.eq_of_toInt_eq e)

/-- Equal to the literal zero is zero. -/
theorem zero_of_cmp (x : EReal) (h : Ideal.cmp .oeq x (Ideal.ofBits .f32 0x00000000#32) = 1#1) : x = 0 := by
  rw [Ideal.ofBits_zero_f32] at h
  by_contra hx
  simp [Ideal.cmp, hx] at h

variable (m : (ℓ : Loc Cert.KernelIdeal.nD Cert.KernelIdeal.τ Cert.KernelIdeal.sig) → Buf (Elt Ideal) ℓ)
  (h : Cert.Pre_KernelIdeal_inputs_as_drawn (hPre_inputs_as_drawn := preFacts) m) (c : Dev Cert.KernelIdeal.nD)
include h

/-- The task index of the run. -/
theorem task : ∃ r : Fin 2, ∀ j, m ((c.tc : Thread Cert.KernelIdeal.nD Cert.KernelIdeal.τ).loc Cert.KernelIdeal.main_arg1) j = BitVec.ofNat 32 r.val := by
  have hj : ∀ j j' : Cert.KernelIdeal.S1.Idx, j = j' := fun j j' => funext fun a => by fin_cases a; exact Subsingleton.elim (α := Fin 1) _ _
  have hw := word_of_range _ (congrFun (h c).1 (ix1 (n0 := 1) 0))
  rcases hw with hw | hw
  · exact ⟨0, fun j => (congrArg _ (hj _ _)).trans hw⟩
  · exact ⟨1, fun j => (congrArg _ (hj _ _)).trans hw⟩

/-- The first layer's biases are zero. -/
theorem bias1_zero (j : Cert.KernelIdeal.S8x768.Idx) : m ((c.tc : Thread Cert.KernelIdeal.nD Cert.KernelIdeal.τ).loc Cert.KernelIdeal.main_arg7) j = (0 : EReal) :=
  zero_of_cmp _ (congrFun (h c).2.1 j)

/-- The second layer's biases are zero. -/
theorem bias2_zero (j : Cert.KernelIdeal.S8x768.Idx) : m ((c.tc : Thread Cert.KernelIdeal.nD Cert.KernelIdeal.τ).loc Cert.KernelIdeal.main_arg9) j = (0 : EReal) :=
  zero_of_cmp _ (congrFun (h c).2.2 j)

end Cert.Moe

end
-- ==== Proof.Formula.lean ====
/-
  The mathematics of the mixture-of-experts score over the extended reals, with no program in sight: the closed forms
  the kernel and the reference are each shown to compute, and the laws that make them equal.

  The extended reals are not a ring: a product distributes over a sum only when the summed terms share a sign, or when
  the factor is a finite nonnegative number. Both occur here. The hidden activations are clamped at zero, so the sum of
  a unit's activations over the tokens may be taken before the product with the second weight matrix. A gate weight is a
  finite nonnegative number if its task's largest logit is finite, and may then be moved across the sum over the tokens.
-/
module

public import Idealize.ShloMosaic.PureOps.Ideal
public import Idealize.ShloMosaic.PureOps.Ideal.Laws

@[expose] public section

noncomputable section

namespace Cert.Moe

open Idealize.ShloMosaic

/-! ## Distributing a product over a sum -/

/-- A sum of nonnegative terms times any factor is the sum of the products. -/
theorem sum_mul_of_nonneg {ι : Type} (s : Finset ι) (h : ι → EReal) (w : EReal) (h0 : ∀ i, 0 ≤ h i) :
    (∑ i ∈ s, h i) * w = ∑ i ∈ s, h i * w := by
  classical
  induction s using Finset.induction_on with
  | empty => simp
  | insert a s ha ih =>
    rw [Finset.sum_insert ha, Finset.sum_insert ha,
      EReal.right_distrib_of_nonneg (h0 a) (Finset.sum_nonneg fun i _ => h0 i), ih]

/-- A finite nonnegative factor times any sum is the sum of the products. -/
theorem mul_sum_of_finite {ι : Type} (s : Finset ι) (g : EReal) (f : ι → EReal) (g0 : 0 ≤ g) (g1 : g ≠ ⊤) :
    g * ∑ i ∈ s, f i = ∑ i ∈ s, g * f i := by
  classical
  induction s using Finset.induction_on with
  | empty => simp
  | insert a s ha ih =>
    rw [Finset.sum_insert ha, Finset.sum_insert ha, EReal.left_distrib_of_nonneg_of_ne_top g0 g1, ih]

/-- A sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The gate: a softmax over the eight experts -/

/-- The largest of the eight logits. -/
def top (a : Fin 8 → EReal) : EReal := Finset.univ.fold max ⊥ a

/-- Expert `e`'s gate weight: its share in the softmax of the logits, the largest logit subtracted first. -/
def gate (a : Fin 8 → EReal) (e : Fin 8) : EReal :=
  Ideal.div (Ideal.exp (a e - top a)) (∑ e', Ideal.exp (a e' - top a))

/-- The largest of eight logits is one of them. -/
theorem exists_top_eq (a : Fin 8 → EReal) : ∃ e, top a = a e := by
  obtain ⟨e, -, he⟩ := Finset.exists_mem_eq_sup Finset.univ ⟨0, Finset.mem_univ _⟩ a
  exact ⟨e, he⟩

/-- An extended real is `⊥`, a real or `⊤`. -/
theorem real_or_infinite (x : EReal) : x = ⊥ ∨ (∃ r : ℝ, x = r) ∨ x = ⊤ := by
  induction x with
  | bot => exact Or.inl rfl
  | top => exact Or.inr (Or.inr rfl)
  | coe r => exact Or.inr (Or.inl ⟨r, rfl⟩)

/-- No logit exceeds the largest. -/
theorem le_top (a : Fin 8 → EReal) (e : Fin 8) : a e ≤ top a := Finset.le_sup (f := a) (Finset.mem_univ e)

/-- If every logit less the largest is `⊥`, every gate weight is zero over zero, which is `⊥`. -/
theorem gate_bot (a : Fin 8 → EReal) (h : ∀ e, a e - top a = ⊥) (e : Fin 8) : gate a e = ⊥ := by
  unfold gate
  simp [h, Ideal.div]

/-- The gate weights are finite and nonnegative if the largest logit is finite: a nonnegative real over a sum of them, of
    which the largest logit's is one. If it is infinite they are all `⊥`. -/
theorem gate_cases (a : Fin 8 → EReal) : (∀ e, 0 ≤ gate a e ∧ gate a e ≠ ⊤) ∨ ∀ e, gate a e = ⊥ := by
  obtain ⟨e₀, h0⟩ := exists_top_eq a
  have hle := le_top a
  rcases real_or_infinite (top a) with ht | ⟨t, ht⟩ | ht
  · exact Or.inr (gate_bot a fun e => by
      have he : a e = ⊥ := le_bot_iff.mp (ht ▸ hle e)
      rw [he, ht]; rfl)
  · left
    have hx : ∀ e, ∃ s : ℝ, 0 ≤ s ∧ Ideal.exp (a e - top a) = (s : EReal) := fun e => by
      rcases real_or_infinite (a e) with he | ⟨r, he⟩ | he
      · exact ⟨0, le_rfl, by rw [he, EReal.bot_sub]; rfl⟩
      · exact ⟨Real.exp (r - t), (Real.exp_pos _).le, by rw [he, ht, ← EReal.coe_sub, Ideal.exp_coe]⟩
      · exact absurd (he ▸ ht ▸ hle e) (by simp)
    choose s s0 hs using hx
    have hs0 : s e₀ = 1 := by
      have h := hs e₀
      rw [← h0, ht, ← EReal.coe_sub, Ideal.exp_coe, sub_self, Real.exp_zero] at h
      exact_mod_cast h.symm
    have hsum : (∑ e', Ideal.exp (a e' - top a)) = ((∑ e', s e' : ℝ) : EReal) := by
      rw [coe_sum]; exact Finset.sum_congr rfl fun e' _ => hs e'
    have hpos : 0 < ∑ e', s e' :=
      lt_of_lt_of_le (by rw [hs0]; norm_num) (Finset.single_le_sum (fun e' _ => s0 e') (Finset.mem_univ e₀))
    intro e
    have hg : gate a e = ((s e * (1 / ∑ e', s e') : ℝ) : EReal) := by
      unfold gate
      rw [hsum, Ideal.div_coe hpos.ne', hs e, ← EReal.coe_mul]
    rw [hg]
    refine ⟨?_, EReal.coe_ne_top _⟩
    exact_mod_cast mul_nonneg (s0 e) (one_div_pos.mpr hpos).le
  · exact Or.inr (gate_bot a fun e => by rw [ht, EReal.sub_top])

/-! ## The experts, summed over the tokens -/

/-- Hidden unit `k` of an expert with first matrix `w1`, at a token whose features are `x`: the product, clamped at zero. -/
def hidden (x : Fin 768 → EReal) (w1 : Fin 768 → Fin 768 → EReal) (k : Fin 768) : EReal := max (∑ d, x d * w1 d k) 0

/-- A hidden unit is not negative. -/
theorem hidden_nonneg (x : Fin 768 → EReal) (w1 : Fin 768 → Fin 768 → EReal) (k : Fin 768) : 0 ≤ hidden x w1 k := le_max_right _ _

/-- An expert's contribution as the kernel computes it: the hidden units are summed over the tokens, in two halves, before
    the second matrix is applied. -/
def expertSum (x : Fin 2048 → Fin 768 → EReal) (w1 w2 : Fin 768 → Fin 768 → EReal) (o : Fin 768) : EReal :=
  ∑ k, ((∑ n : Fin 1024, hidden (x ⟨n.val, by omega⟩) w1 k) + ∑ n : Fin 1024, hidden (x ⟨1024 + n.val, by omega⟩) w1 k) * w2 k o

/-- The two halves of the tokens are all of them. -/
theorem sum_halves (f : Fin 2048 → EReal) :
    (∑ n : Fin 1024, f ⟨n.val, by omega⟩) + ∑ n : Fin 1024, f ⟨1024 + n.val, by omega⟩ = ∑ n, f n :=
  (Fin.sum_univ_add (a := 1024) (b := 1024) f).symm

/-- The contribution is the sum over the tokens of the expert's output at each. -/
theorem expertSum_eq (x : Fin 2048 → Fin 768 → EReal) (w1 w2 : Fin 768 → Fin 768 → EReal) (o : Fin 768) :
    expertSum x w1 w2 o = ∑ n, ∑ k, hidden (x n) w1 k * w2 k o := by
  unfold expertSum
  rw [Finset.sum_comm]
  refine Finset.sum_congr rfl fun k _ => ?_
  rw [sum_halves fun n => hidden (x n) w1 k, sum_mul_of_nonneg _ _ _ fun n => hidden_nonneg _ _ _]

/-- The gated mixture, summed over the tokens: what the kernel accumulates expert by expert is what the reference sums
    token by token. -/
theorem mixture_eq (g : Fin 8 → EReal) (g0 : ∀ e, 0 ≤ g e ∧ g e ≠ ⊤) (x : Fin 2048 → Fin 768 → EReal)
    (w1 w2 : Fin 8 → Fin 768 → Fin 768 → EReal) (o : Fin 768) :
    ∑ e, g e * expertSum x (w1 e) (w2 e) o = ∑ n, ∑ e, g e * ∑ k, hidden (x n) (w1 e) k * w2 e k o := by
  rw [Finset.sum_comm]
  refine Finset.sum_congr rfl fun e _ => ?_
  rw [expertSum_eq, mul_sum_of_finite _ _ _ (g0 e).1 (g0 e).2]

/-! ## The score: layer norm, a dot product, a logistic -/

/-- The mean of the mixture's 768 features. -/
def mean (v : Fin 768 → EReal) : EReal := Ideal.div (∑ o, v o) ((768 : ℝ) : EReal)

/-- Their variance: the mean of the squared deviations. -/
def variance (v : Fin 768 → EReal) : EReal := Ideal.div (∑ o, (v o - mean v) * (v o - mean v)) ((768 : ℝ) : EReal)

/-- The score from a list of normalised features: scaled, shifted, dotted with the output column, biased, squashed. -/
def score (z lg lb w : Fin 768 → EReal) (b : EReal) : EReal :=
  Ideal.div 1 (1 + Ideal.exp (-((∑ o, (z o * lg o + lb o) * w o) + b)))

/-- A square is nonnegative, infinities included. -/
theorem sq_nonneg (x : EReal) : 0 ≤ x * x := by
  induction x with
  | bot => simp
  | top => simp
  | coe r => exact_mod_cast mul_self_nonneg r

/-- The variance is not negative, whatever the features. -/
theorem variance_nonneg (v : Fin 768 → EReal) : 0 ≤ variance v := by
  unfold variance
  rw [Ideal.div_coe (by norm_num)]
  exact mul_nonneg (Finset.sum_nonneg fun o _ => sq_nonneg _) (by exact_mod_cast (by norm_num : (0 : ℝ) ≤ 1 / 768))

/-- Multiplying by the reciprocal square root of a positive number is dividing by its square root; at `⊤` both are zero. -/
theorem mul_rsqrt_eq_div_sqrt (x y : EReal) (hy : 0 < y) : x * Ideal.rsqrt y = Ideal.div x (Ideal.sqrt y) := by
  induction y with
  | bot => simp at hy
  | top =>
    rw [Ideal.rsqrt_top, Ideal.sqrt_top]
    simp [Ideal.div]
  | coe r =>
    have hr : 0 < r := by exact_mod_cast hy
    have hs : Real.sqrt r ≠ 0 := (Real.sqrt_pos.mpr hr).ne'
    rw [Ideal.rsqrt_coe, if_neg hr.not_gt, if_neg hr.ne', Ideal.sqrt_coe, if_neg hr.not_gt, Ideal.div_coe hs, one_div]

/-- The small number added to the variance is positive, so the two ways of normalising agree. -/
theorem normalise_eq (v : Fin 768 → EReal) (ε : EReal) (hε : 0 < ε) (o : Fin 768) :
    (v o - mean v) * Ideal.rsqrt (variance v + ε) = Ideal.div (v o - mean v) (Ideal.sqrt (variance v + ε)) :=
  mul_rsqrt_eq_div_sqrt _ _ (lt_of_lt_of_le hε (le_add_of_nonneg_left (variance_nonneg v)))

end Cert.Moe

end
-- ==== Proof.Consts.lean ====
/-
  The literals both programs write, as extended reals.
-/
module

public import Idealize.ShloMosaic.Lib.IdealHost

@[expose] public section

noncomputable section

namespace Cert.Moe

open Idealize.ShloMosaic

/-- The literal the sums are divided by is 768. -/
theorem ofBits_768 : Ideal.ofBits .f32 0x44400000#32 = ((768 : ℝ) : EReal) := by
  simp [Ideal.ofBits, Ideal.ieee, -EReal.coe_mul]; norm_num

/-- The literal a maximum starts from is `⊥`. -/
theorem ofBits_neg_inf : Ideal.ofBits .f32 0xFF800000#32 = ⊥ := by simp [Ideal.ofBits, Ideal.ieee]

/-- The small number added to the variance, as the literal both programs write. -/
abbrev epsilon : EReal := Ideal.ofBits .f32 0x3727C5AC#32

/-- It is positive. -/
theorem epsilon_pos : 0 < epsilon := by
  unfold epsilon
  simp [Ideal.ofBits, Ideal.ieee, -EReal.coe_mul]

end Cert.Moe

end
-- ==== Proof.Payload.lean ====
/-
  What the kernel body's stored values are at an index, over the extended reals, in the closed forms of `Formula.lean`:
  the expert's contribution, the gate of the selected task, the gated product, and the final score.
-/
module

public import proofs.«01_k».proof.Proof.Formula
public import proofs.«01_k».proof.Proof.Consts
public import proofs.«01_k».proof.Proof.Gen.KernelIdeal.Skeleton
public import Idealize.ShloMosaic.Lib.Pointwise
public import Idealize.ShloMosaic.Lib.IdealHost

@[expose] public section

set_option maxRecDepth 16384

noncomputable section

namespace Cert.Moe

open Idealize.ShloMosaic Idealize.ShloMosaic.TcCoe
open Cert.KernelIdeal Cert.KernelIdeal.Gen

/-! ## The expert's contribution -/

/-- The two matrix products and the sums over the tokens between them, for the block of one expert and the two halves of
    the tokens. -/
theorem pay5_apply (x : Fin 2048 → Fin 768 → EReal) (w1 w2 : Vec Ideal S1x768x768 .f32) (xa xb : Vec Ideal S1x1024x768 .f32)
    (ha : ∀ (n : Fin 1024) (d : Fin 768), xa (ix3 0 n d) = x ⟨n.val, by omega⟩ d)
    (hb : ∀ (n : Fin 1024) (d : Fin 768), xb (ix3 0 n d) = x ⟨1024 + n.val, by omega⟩ d) (o : Fin 768) :
    k0_pay5 (F := Ideal) w1 xa xb w2 (ix2 0 o)
      = expertSum x (fun d k => w1 (ix3 0 d k)) (fun k o => w2 (ix3 0 k o)) o := by
  unfold k0_pay5
  pointwise [ha, hb]
  rfl

/-! ## The gate -/

/-- The row of logits the task word selects: the other row is masked to zero and the two are added. -/
theorem pay6_apply (a : Vec Ideal S2x8 .f32) (t : BitVec 32) (r : Fin 2) (hr : t = BitVec.ofNat 32 r.val) (e : Fin 8) :
    k0_pay6 (F := Ideal) a t (ix2 0 e) = a (ix2 r e) := by
  subst hr
  unfold k0_pay6
  pointwise
  rw [Fin.sum_univ_two]
  fin_cases r
  · show a (ix2 0 e) + 0 = a (ix2 0 e); rw [add_zero]
  · show 0 + a (ix2 1 e) = a (ix2 1 e); rw [zero_add]

/-- Its largest entry, in every lane. -/
theorem pay7_apply (a : Vec Ideal S2x8 .f32) (t : BitVec 32) (r : Fin 2) (hr : t = BitVec.ofNat 32 r.val) (e : Fin 8) :
    k0_pay7 (F := Ideal) a t (ix2 0 e) = top fun e => a (ix2 r e) := by
  have h6 := pay6_apply a t r hr
  unfold k0_pay7
  generalize k0_pay6 (F := Ideal) a t = y at h6 ⊢
  pointwise
  show Finset.fold max (Ideal.ofBits .f32 0xFF800000#32) _ _ = _
  simp only [h6, ofBits_neg_inf]
  show Finset.univ.sup (fun x : Fin 1 × Fin 8 => a (ix2 r x.2)) = Finset.univ.sup fun e : Fin 8 => a (ix2 r e)
  exact le_antisymm
    (Finset.sup_le fun x _ => Finset.le_sup (f := fun e : Fin 8 => a (ix2 r e)) (Finset.mem_univ x.2))
    (Finset.sup_le fun e _ => Finset.le_sup (f := fun x : Fin 1 × Fin 8 => a (ix2 r x.2)) (Finset.mem_univ (0, e)))

/-- The gated product: the softmax weight in lane `e` times the contribution. -/
theorem pay1_apply (y : Fin 8 → EReal) (w : BitVec 32) (e : Fin 8) (he : w = BitVec.ofNat 32 e.val)
    (v : FVec Ideal S1x768 .f32) (a b : FVec Ideal S1x8 .f32) (ha : ∀ e : Fin 8, a (ix2 0 e) = y e)
    (hb : ∀ e : Fin 8, b (ix2 0 e) = top y) (o : Fin 768) :
    k0_pay1 (F := Ideal) w v a b (ix2 0 o) = gate y e * v (ix2 0 o) := by
  subst he
  unfold k0_pay1
  pointwise [ha, hb]
  have hsel : ∀ z : Fin 8 → EReal,
      (∑ x : Fin 8, Scalar.select (IntOp.cmpi .eq (BitVec.ofNat 32 x.val) (BitVec.ofNat 32 e.val)) (z x) (0 : EReal)) = z e := by
    intro z
    rw [Finset.sum_eq_single e]
    · simp [Scalar.select, IntOp.cmpi]
    · intro x _ hx
      have hne : BitVec.ofNat 32 x.val ≠ BitVec.ofNat 32 e.val := by
        intro h
        have := congrArg BitVec.toNat h
        simp only [BitVec.toNat_ofNat] at this
        exact hx (Fin.ext (by omega))
      simp [Scalar.select, IntOp.cmpi, beq_false_of_ne hne]
    · intro h; exact absurd (Finset.mem_univ e) h
  simp only [Fin.sum_univ_one, Finset.univ_unique, Finset.sum_singleton]
  rw [hsel fun x => Ideal.div (Ideal.exp (y x - top y)) (∑ x, Ideal.exp (y x - top y))]
  rfl

/-! ## The score -/

/-- The last store: the score of the accumulated mixture `s`. -/
theorem pay4_apply (v lg lb : Vec Ideal S1x768 .f32) (w : Vec Ideal S768x1 .f32) (b : Elt Ideal .f32) (s : Fin 768 → EReal)
    (hs : ∀ o, v (ix2 0 o) = s o) :
    k0_pay4 (F := Ideal) v lg lb w b (ix2 0 0)
      = score (fun o => (s o - mean s) * Ideal.rsqrt (variance s + epsilon))
          (fun o => lg (ix2 0 o)) (fun o => lb (ix2 0 o)) (fun o => w (ix2 o 0)) b := by
  unfold k0_pay4
  pointwise [hs]
  simp only [Finset.univ_unique, Finset.sum_singleton, zero_sub]
  unfold score variance mean
  rw [← ofBits_768]
  rfl

end Cert.Moe

end
-- ==== Proof.KernelPoint.lean ====
/-
  What the body leaves at each kind of grid point, over the extended reals: at the first point the gated contribution of
  expert 0, at a later one what was accumulated plus the gated contribution of that point's expert, and at the last the
  score of the accumulated mixture.
-/
module

public import proofs.«01_k».proof.Proof.Payload
public import proofs.«01_k».proof.Proof.Gen.KernelIdeal.Frame
public import Idealize.ShloMosaic.Lib.Pipeline.Value
public import Idealize.ShloMosaic.Lib.Tactic

@[expose] public section

set_option maxRecDepth 16384

noncomputable section

namespace Cert.Moe

open Idealize.ShloMosaic Idealize.ShloMosaic.TcCoe
open Cert.KernelIdeal Cert.KernelIdeal.Gen

/-- The origin of a two-axis array. -/
theorem zero2 : (![0, 0] : Fin 2 → Nat) = fun _ => 0 := funext fun a => by fin_cases a <;> rfl
/-- The origin of a three-axis array. -/
theorem zero3 : (![0, 0, 0] : Fin 3 → Nat) = fun _ => 0 := funext fun a => by fin_cases a <;> rfl

variable (c : Dev nD) (i : grid0.Coords)
  (a2 : Memref sig .tc .vmem S1x2048x768 .f32) (h2 : a2.IsWhole) (a3 : Memref sig .tc .vmem S1x768x768 .f32) (h3 : a3.IsWhole)
  (a4 : Memref sig .tc .vmem S1x768x768 .f32) (h4 : a4.IsWhole) (a5 : Memref sig .tc .vmem S2x8 .f32) (h5 : a5.IsWhole)
  (a6 : Memref sig .tc .vmem S1x768 .f32) (h6 : a6.IsWhole) (a7 : Memref sig .tc .vmem S1x768 .f32) (h7 : a7.IsWhole)
  (a8 : Memref sig .tc .vmem S768x1 .f32) (h8 : a8.IsWhole) (a9 : Memref sig .tc .smem S1 .f32) (h9 : a9.IsWhole)
  (a10 : Memref sig .tc .vmem S1x1 .f32) (h10 : a10.IsWhole) (a11 : Memref sig .tc .vmem S1x768 .f32) (h11 : a11.IsWhole)
  (x0 : Vec Ideal S1x2048x768 .f32) (x1 x2 : Vec Ideal S1x768x768 .f32) (x3 : Vec Ideal S2x8 .f32)
  (x4 x5 : Vec Ideal S1x768 .f32) (x6 : Vec Ideal S768x1 .f32) (x7 : Vec Ideal S1 .f32) (xt : TbBuf0 (F := Ideal) c tbM0_0)
  (r : Fin 2) (e : Fin 8)

/-- The gated contribution of expert `e`, over the blocks its point reads. -/
def part (o : Fin 768) : EReal :=
  gate (fun e => x3 (ix2 r e)) e
    * expertSum (fun n d => x0 (ix3 0 n d)) (fun d k => x1 (ix3 0 d k)) (fun k o => x2 (ix3 0 k o)) o

/-- The product the body forms from any two halves of the tokens, and from the task word, is that contribution. -/
theorem gated_apply (xa xb : Vec Ideal S1x1024x768 .f32) (t w : BitVec 32)
    (ha : ∀ (n : Fin 1024) (d : Fin 768), xa (ix3 0 n d) = x0 (ix3 0 (⟨n.val, by omega⟩ : Fin 2048) d))
    (hb : ∀ (n : Fin 1024) (d : Fin 768), xb (ix3 0 n d) = x0 (ix3 0 (⟨1024 + n.val, by omega⟩ : Fin 2048) d))
    (ht : t = BitVec.ofNat 32 r.val) (hw : w = BitVec.ofNat 32 e.val) (o : Fin 768) :
    k0_pay1 (F := Ideal) w (k0_pay5 x1 xa xb x2) (k0_pay6 x3 t) (k0_pay7 x3 t) (ix2 0 o) = part x0 x1 x2 x3 r e o := by
  rw [pay1_apply (fun e => x3 (ix2 r e)) w e hw _ _ _ (pay6_apply x3 t r ht) (pay7_apply x3 t r ht),
    pay5_apply (fun n d => x0 (ix3 0 n d)) x1 x2 xa xb ha hb]
  rfl

/-- The first point: the accumulator is the contribution of its expert. -/
theorem scratch_A (hc0 : cond0_0 i) (hc1 : ¬cond0_1 i) (hc2 : ¬cond0_2 i) (he : (i 0).val = e.val)
    (hr : ∀ j, (xt : Vec Ideal S1 .i32) j = BitVec.ofNat 32 r.val) (o : Fin 768) :
    sout0_A_0 c i a2 h2 a3 h3 a4 h4 a5 h5 a6 h6 a7 h7 a8 h8 a9 h9 a10 h10 a11 h11 hc0 hc1 hc2 x0 x1 x2 x3 x4 x5 x6 x7 xt (ix2 0 o) = part x0 x1 x2 x3 r e o := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5 x6 x7 xt)]
  unfold kernelRun0_A
  dsimp only
  sl_unfold_words
  rw [View.canon_unit_zero zero2]
  unfold k0_pay2
  simp only [View.readAt_eq_ld, h2.read_unread, h3.read_unread, h4.read_unread, h5.read_unread, View.ld_unit_zero (S := S1x768x768) zero3,
    View.ld_unit_zero (S := S2x8) zero2, View.ld_unit_zero (S := S1x768) zero2, View.ld_unit_zero (S := S768x1) zero2, shapeCast_self]
  exact gated_apply x0 x1 x2 x3 r e _ _ _ _ (fun n d => by pointwise) (fun n d => by pointwise) (hr _) (congrArg _ he) o

/-- A point between: the contribution of its expert is added to what was accumulated. -/
theorem scratch_B (hc0 : ¬cond0_0 i) (hc1 : cond0_1 i) (hc2 : ¬cond0_2 i) (xs : Vec Ideal S1x768 .f32) (he : (i 0).val = e.val)
    (hr : ∀ j, (xt : Vec Ideal S1 .i32) j = BitVec.ofNat 32 r.val) (o : Fin 768) :
    sout0_B_0 c i a2 h2 a3 h3 a4 h4 a5 h5 a6 h6 a7 h7 a8 h8 a9 h9 a10 h10 a11 h11 hc0 hc1 hc2 x0 x1 x2 x3 x4 x5 x6 x7 xt xs (ix2 0 o) = xs (ix2 0 o) + part x0 x1 x2 x3 r e o := by
  unfold sout0_B_0
  rw [View.read_writes_eq_canon _ _ _ (scover0_B_0 c i a2 h2 a3 h3 a4 h4 a5 h5 a6 h6 a7 h7 a8 h8 a9 h9 a10 h10 a11 h11 hc0 hc1 hc2 x0 x1 x2 x3 x4 x5 x6 x7 xt xs)]
  unfold kernelRun0_B
  dsimp only
  sl_unfold_words
  rw [View.canon_unit_zero zero2]
  unfold k0_pay3
  simp only [View.readAt_eq_ld, h2.read_unread, h3.read_unread, h4.read_unread, h5.read_unread, h11.read_unread, View.ld_unit_zero (S := S1x768x768) zero3,
    View.ld_unit_zero (S := S2x8) zero2, View.ld_unit_zero (S := S1x768) zero2, View.ld_unit_zero (S := S768x1) zero2, shapeCast_self]
  exact congrArg (xs (ix2 0 o) + ·) (gated_apply x0 x1 x2 x3 r e _ _ _ _ (fun n d => by pointwise) (fun n d => by pointwise)
    (hr _) (congrArg _ he) o)

/-- The last point: the result is the score of what was accumulated and the last expert's contribution. -/
theorem out_C (hc0 : ¬cond0_0 i) (hc1 : cond0_1 i) (hc2 : cond0_2 i) (xs : Vec Ideal S1x768 .f32) (he : (i 0).val = e.val)
    (hr : ∀ j, (xt : Vec Ideal S1 .i32) j = BitVec.ofNat 32 r.val) (s : Fin 768 → EReal)
    (hs : ∀ o, xs (ix2 0 o) + part x0 x1 x2 x3 r e o = s o) :
    out0_C_8 c i a2 h2 a3 h3 a4 h4 a5 h5 a6 h6 a7 h7 a8 h8 a9 h9 a10 h10 a11 h11 hc0 hc1 hc2 x0 x1 x2 x3 x4 x5 x6 x7 xt xs (ix2 0 0)
      = score (fun o => (s o - mean s) * Ideal.rsqrt (variance s + epsilon)) (fun o => x4 (ix2 0 o)) (fun o => x5 (ix2 0 o))
          (fun o => x6 (ix2 o 0)) (x7 (ix1 0)) := by
  unfold out0_C_8
  rw [View.read_writes_eq_canon _ _ _ (cover0_C_8 c i a2 h2 a3 h3 a4 h4 a5 h5 a6 h6 a7 h7 a8 h8 a9 h9 a10 h10 a11 h11 hc0 hc1 hc2 x0 x1 x2 x3 x4 x5 x6 x7 xt xs)]
  unfold kernelRun0_C
  dsimp only
  sl_unfold_words
  rw [View.canon_unit_zero zero2, View.readCov_unit_zero (S := S1x768) _ zero2]
  simp only [View.readAt_eq_ld, h2.read_unread, h3.read_unread, h4.read_unread, h5.read_unread, h6.read_unread, h7.read_unread, h8.read_unread,
    h9.read_unread, h11.read_unread, View.ld_unit_zero (S := S1x768x768) zero3,
    View.ld_unit_zero (S := S2x8) zero2, View.ld_unit_zero (S := S1x768) zero2, View.ld_unit_zero (S := S768x1) zero2, shapeCast_self]
  refine (pay4_apply _ _ _ _ _ s fun o => ?_).trans ?_
  · rw [← hs o]
    unfold k0_pay3
    simp only [shapeCast_self]
    exact congrArg (xs (ix2 0 o) + ·) (gated_apply x0 x1 x2 x3 r e _ _ _ _ (fun n d => by pointwise) (fun n d => by pointwise)
      (hr _) (congrArg _ he) o)
  · exact congrArg (score _ _ _ _) (congrArg x7 (funext fun a => by fin_cases a; rfl))

end Cert.Moe

end
-- ==== Proof.Blocks.lean ====
/-
  What each window's block is at a grid point, read off the arguments: the weights' block is the point's expert, every
  other block is the whole argument, and the two layer-norm rows are the arguments with a unit axis put in front.
-/
module

public import proofs.«01_k».proof.Proof.Gen.KernelIdeal.Frame
public import Idealize.ShloMosaic.Lib.Pipeline.ValueKit
public import Idealize.ShloMosaic.Lib.Pointwise
public import Idealize.ShloMosaic.Lib.Tactic

@[expose] public section

set_option maxRecDepth 16384

noncomputable section

namespace Cert.Moe

open Idealize.ShloMosaic Idealize.ShloMosaic.TcCoe
open Cert.KernelIdeal Cert.KernelIdeal.Gen

variable (m : (ℓ : Loc nD τ sig) → Buf (Elt Ideal) ℓ) (hO : Ok m) (c : Dev nD) (t : Fin (cfgM m hO).N)

/-- The grid coordinate of a point is its number. -/
theorem coord : ∀ t : Fin grid0.N, ((grid0.coords t) 0).val = t.val := by decide +kernel

/-- The index map of the two weight windows: the point's number on the expert axis. -/
theorem index1 : ∀ t : Fin grid0.N, cc0_transform_1 (grid0.coords t) = ![t.val, 0, 0] := by decide +kernel
/-- The second matrix's block index at a point is the point's own. -/
theorem index2 : ∀ t : Fin grid0.N, cc0_transform_2 (grid0.coords t) = ![t.val, 0, 0] := by decide +kernel

/-- Every point sees all the tokens. -/
theorem block0 (n : Fin 2048) (d : Fin 768) :
    (iblk m hO c 0 t : Vec Ideal S1x2048x768 .f32) (ix3 0 n d) = m ((c : Thread nD τ).loc main_arg0) (ix3 0 n d) := by
  refine (View.read_apply ..).trans ?_
  show V m c main_arg0 _ = _
  rw [V_main_arg0]
  congr 1
  funext a
  apply Fin.ext
  match a with
  | ⟨0, _⟩ => show 0 * 1 + 1 * 0 = 0; rfl
  | ⟨1, _⟩ => show 0 * 2048 + 1 * n.val = n.val; omega
  | ⟨2, _⟩ => show 0 * 768 + 1 * d.val = d.val; omega

/-- Point `t` sees expert `t`'s first matrix. -/
theorem block1 (e : Fin 8) (he : e.val = t.val) (d k : Fin 768) :
    (iblk m hO c 1 t : Vec Ideal S1x768x768 .f32) (ix3 0 d k) = m ((c : Thread nD τ).loc main_arg6) (ix3 e d k) := by
  refine (View.read_apply ..).trans ?_
  show V m c main_arg6 _ = _
  rw [V_main_arg6]
  congr 1
  funext a
  apply Fin.ext
  have h := index1 t
  match a with
  | ⟨0, _⟩ => show cc0_transform_1 (grid0.coords t) 0 * 1 + 1 * 0 = e.val; rw [h, he]; show t.val * 1 + 1 * 0 = t.val; omega
  | ⟨1, _⟩ => show 0 * 768 + 1 * d.val = d.val; omega
  | ⟨2, _⟩ => show 0 * 768 + 1 * k.val = k.val; omega

/-- Point `t` sees expert `t`'s second matrix. -/
theorem block2 (e : Fin 8) (he : e.val = t.val) (k o : Fin 768) :
    (iblk m hO c 2 t : Vec Ideal S1x768x768 .f32) (ix3 0 k o) = m ((c : Thread nD τ).loc main_arg8) (ix3 e k o) := by
  refine (View.read_apply ..).trans ?_
  show V m c main_arg8 _ = _
  rw [V_main_arg8]
  congr 1
  funext a
  apply Fin.ext
  have h := index2 t
  match a with
  | ⟨0, _⟩ => show cc0_transform_2 (grid0.coords t) 0 * 1 + 1 * 0 = e.val; rw [h, he]; show t.val * 1 + 1 * 0 = t.val; omega
  | ⟨1, _⟩ => show 0 * 768 + 1 * k.val = k.val; omega
  | ⟨2, _⟩ => show 0 * 768 + 1 * o.val = o.val; omega

/-- Every point sees all the logits. -/
theorem block3 (r : Fin 2) (e : Fin 8) :
    (iblk m hO c 3 t : Vec Ideal S2x8 .f32) (ix2 r e) = m ((c : Thread nD τ).loc main_arg3) (ix2 r e) := by
  refine (View.read_apply ..).trans ?_
  show V m c main_arg3 _ = _
  rw [V_main_arg3]
  congr 1
  funext a
  apply Fin.ext
  match a with
  | ⟨0, _⟩ => show 0 * 2 + 1 * r.val = r.val; omega
  | ⟨1, _⟩ => show 0 * 8 + 1 * e.val = e.val; omega

/-- A row with a unit axis put in front, at a coordinate. -/
theorem row_apply (x : Vec Ideal S768 .f32) (o : Fin 768) : shapeCast S1x768 x shapeCasts_S768_S1x768 (ix2 0 o) = x (ix1 o) := by
  pointwise

/-- Every point sees the layer norm's scale. -/
theorem block4 (o : Fin 768) :
    (iblk m hO c 4 t : Vec Ideal S1x768 .f32) (ix2 0 o) = m ((c : Thread nD τ).loc main_arg10) (ix1 o) := by
  refine (View.read_apply ..).trans ?_
  show V m c main_v0 _ = _
  entry_read
  refine Eq.trans (congrArg (shapeCast S1x768 (m ((c : Thread nD τ).loc main_arg10)) shapeCasts_S768_S1x768) (a₂ := ix2 0 o) ?_) (row_apply _ o)
  funext a
  apply Fin.ext
  match a with
  | ⟨0, _⟩ => show 0 * 1 + 1 * 0 = 0; rfl
  | ⟨1, _⟩ => show 0 * 768 + 1 * o.val = o.val; omega

/-- Every point sees the layer norm's shift. -/
theorem block5 (o : Fin 768) :
    (iblk m hO c 5 t : Vec Ideal S1x768 .f32) (ix2 0 o) = m ((c : Thread nD τ).loc main_arg11) (ix1 o) := by
  refine (View.read_apply ..).trans ?_
  show V m c main_v1 _ = _
  entry_read
  refine Eq.trans (congrArg (shapeCast S1x768 (m ((c : Thread nD τ).loc main_arg11)) shapeCasts_S768_S1x768) (a₂ := ix2 0 o) ?_) (row_apply _ o)
  funext a
  apply Fin.ext
  match a with
  | ⟨0, _⟩ => show 0 * 1 + 1 * 0 = 0; rfl
  | ⟨1, _⟩ => show 0 * 768 + 1 * o.val = o.val; omega

/-- Every point sees the output column. -/
theorem block6 (o : Fin 768) :
    (iblk m hO c 6 t : Vec Ideal S768x1 .f32) (ix2 o 0) = m ((c : Thread nD τ).loc main_arg12) (ix2 o 0) := by
  refine (View.read_apply ..).trans ?_
  show V m c main_arg12 _ = _
  rw [V_main_arg12]
  congr 1
  funext a
  apply Fin.ext
  match a with
  | ⟨0, _⟩ => show 0 * 768 + 1 * o.val = o.val; omega
  | ⟨1, _⟩ => show 0 * 1 + 1 * 0 = 0; omega

/-- Every point sees the output bias. -/
theorem block7 : (iblk m hO c 7 t : Vec Ideal S1 .f32) (ix1 0) = m ((c : Thread nD τ).loc main_arg13) (ix1 0) := by
  refine (View.read_apply ..).trans ?_
  show V m c main_arg13 _ = _
  rw [V_main_arg13]
  congr 1
  funext a
  apply Fin.ext
  match a with
  | ⟨0, _⟩ => show 0 * 1 + 1 * 0 = 0; omega

/-- The task word the body reads is the one the launch memory holds. -/
theorem word : tbl m 0 = m ((c : Thread nD τ).loc main_arg1) := by
  rw [← V_pre m c 0]
  exact V_main_arg1 m c

end Cert.Moe

end
-- ==== Proof.KernelValue.lean ====
/-
  What the kernel's result array ends holding: the score of the sum over the experts of their gated contributions. The
  accumulator is followed point by point, by induction; the last point writes the score back.
-/
module

public import proofs.«01_k».proof.Proof.KernelPoint
public import proofs.«01_k».proof.Proof.Blocks

@[expose] public section

set_option maxRecDepth 16384

noncomputable section

namespace Cert.Moe

open Idealize.ShloMosaic Idealize.ShloMosaic.TcCoe Idealize.SL.Sem
open Cert.KernelIdeal Cert.KernelIdeal.Gen

/-- `part` depends on the blocks only through what they hold at coordinates. -/
theorem part_of (x0 : Vec Ideal S1x2048x768 .f32) (x1 x2 : Vec Ideal S1x768x768 .f32) (x3 : Vec Ideal S2x8 .f32) (r : Fin 2) (e : Fin 8)
    (x : Fin 2048 → Fin 768 → EReal) (w1 w2 : Fin 768 → Fin 768 → EReal) (a : Fin 8 → EReal)
    (h0 : ∀ n d, x0 (ix3 0 n d) = x n d) (h1 : ∀ d k, x1 (ix3 0 d k) = w1 d k) (h2 : ∀ k o, x2 (ix3 0 k o) = w2 k o)
    (h3 : ∀ e, x3 (ix2 r e) = a e) (o : Fin 768) : part x0 x1 x2 x3 r e o = gate a e * expertSum x w1 w2 o := by
  unfold part
  rw [show (fun n d => x0 (ix3 0 n d)) = x from funext fun n => funext fun d => h0 n d,
    show (fun d k => x1 (ix3 0 d k)) = w1 from funext fun d => funext fun k => h1 d k,
    show (fun k o => x2 (ix3 0 k o)) = w2 from funext fun k => funext fun o => h2 k o,
    show (fun e => x3 (ix2 r e)) = a from funext h3]

variable (m : (ℓ : Loc nD τ sig) → Buf (Elt Ideal) ℓ) (ρ : Dev nD → PrngReg) (hO : Ok m) (c : Dev nD) (r : Fin 2)

/-! The arguments, by coordinates. -/

/-- The tokens' features. -/
abbrev argX (n : Fin 2048) (d : Fin 768) : EReal := m ((c : Thread nD τ).loc main_arg0) (ix3 0 n d)
/-- The experts' first matrices. -/
abbrev argW1 (e : Fin 8) (d k : Fin 768) : EReal := m ((c : Thread nD τ).loc main_arg6) (ix3 e d k)
/-- The experts' second matrices. -/
abbrev argW2 (e : Fin 8) (k o : Fin 768) : EReal := m ((c : Thread nD τ).loc main_arg8) (ix3 e k o)
/-- The task's logits. -/
abbrev argA (e : Fin 8) : EReal := m ((c : Thread nD τ).loc main_arg3) (ix2 r e)

/-- Expert `e`'s gated contribution, over the arguments. -/
def term (e : Fin 8) (o : Fin 768) : EReal := gate (argA m c r) e * expertSum (argX m c) (argW1 m c e) (argW2 m c e) o

/-- The same at a point number. -/
def termAt (i : ℕ) (o : Fin 768) : EReal := if h : i < 8 then term m c r ⟨i, h⟩ o else 0

/-- Of an expert that exists, the contribution. -/
theorem termAt_of_lt {i : ℕ} (h : i < 8) (o : Fin 768) : termAt m c r i o = term m c r ⟨i, h⟩ o := dif_pos h

/-- The contribution over a point's blocks is the one over the arguments. -/
theorem part_eq (t : Fin (cfgM m hO).N) (e : Fin 8) (he : e.val = t.val) (o : Fin 768) :
    part (iblk m hO c 0 t) (iblk m hO c 1 t) (iblk m hO c 2 t) (iblk m hO c 3 t) r e o = termAt m c r t.val o := by
  have ht : t.val < 8 := he ▸ e.isLt
  rw [termAt_of_lt m c r ht]
  obtain rfl : e = ⟨t.val, ht⟩ := Fin.ext he
  exact part_of _ _ _ _ r _ _ _ _ _ (block0 m hO c t) (block1 m hO c t _ rfl) (block2 m hO c t _ rfl) (block3 m hO c t r) o

/-- The task word, as the body reads it. -/
theorem word_eq (hr : ∀ j, m ((c : Thread nD τ).loc main_arg1) j = BitVec.ofNat 32 r.val) (j : S1.Idx) :
    (tbl m 0 : Vec Ideal S1 .i32) j = BitVec.ofNat 32 r.val :=
  (congrFun (word m c) j).trans (hr j)

/-- The first point's accumulator. -/
theorem step_A (hr : ∀ j, m ((c : Thread nD τ).loc main_arg1) j = BitVec.ofNat 32 r.val) (t : Fin (cfgM m hO).N)
    (h0 : t.val % 8 = 0) (h1 : ¬1 ≤ t.val) (h2 : ¬t.val % 8 = 7) (e : Fin 8) (he : e.val = t.val) (o : Fin 768) :
    (outsAt0 m hO c t.val t.isLt).2 (ix2 0 o) = termAt m c r t.val o := by
  rw [outsAt0_A m hO c t h0 h1 h2, ← part_eq m hO c r t e he o]
  dsimp only
  exact scratch_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) r e _ _ _ ((coord t).trans he.symm) (word_eq m c r hr) o

/-- A point between: the accumulator of the point before, and its own contribution. -/
theorem step_B (hr : ∀ j, m ((c : Thread nD τ).loc main_arg1) j = BitVec.ofNat 32 r.val) (t : Fin (cfgM m hO).N)
    (h0 : ¬t.val % 8 = 0) (h1 : 1 ≤ t.val) (h2 : ¬t.val % 8 = 7) (e : Fin 8) (he : e.val = t.val) (o : Fin 768) :
    (outsAt0 m hO c t.val t.isLt).2 (ix2 0 o)
      = (outsAt0 m hO c (t.val - 1) (Nat.lt_of_le_of_lt (Nat.sub_le _ _) t.isLt)).2 (ix2 0 o) + termAt m c r t.val o := by
  rw [outsAt0_B m hO c t h0 h1 h2, ← part_eq m hO c r t e he o]
  dsimp only
  exact scratch_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) r e _ _ _ (outsAt0 m hO c (t.val - 1) (Nat.lt_of_le_of_lt (Nat.sub_le _ _) t.isLt)).2 ((coord t).trans he.symm) (word_eq m c r hr) o

/-- Before the last point, the accumulator holds the contributions of the experts met so far. -/
theorem scratch_eq (hr : ∀ j, m ((c : Thread nD τ).loc main_arg1) j = BitVec.ofNat 32 r.val) (o : Fin 768) :
    ∀ (n : ℕ) (h : n < (cfgM m hO).N), n < 7 →
      (outsAt0 m hO c n h).2 (ix2 0 o) = ∑ i ∈ Finset.range (n + 1), termAt m c r i o
  | 0, h, _ => by
    rw [Finset.sum_range_one]
    exact step_A m hO c r hr ⟨0, h⟩ rfl (Nat.not_succ_le_zero 0) (fun h => nomatch h) 0 rfl o
  | n + 1, h, h7 => by
    rw [Finset.sum_range_succ, ← scratch_eq hr o n (Nat.lt_of_succ_lt h) (by omega)]
    exact step_B m hO c r hr ⟨n + 1, h⟩ (show ¬(n + 1) % 8 = 0 by omega) (Nat.succ_pos n) (show ¬(n + 1) % 8 = 7 by omega)
      ⟨n + 1, by omega⟩ rfl o

/-- The mixture the kernel scores: the sum over the experts. -/
def total (o : Fin 768) : EReal := ∑ e, term m c r e o

/-- What the last point leaves in the result block. -/
def answer : EReal :=
  score (fun o => (total m c r o - mean (total m c r)) * Ideal.rsqrt (variance (total m c r) + epsilon))
    (fun o => m ((c : Thread nD τ).loc main_arg10) (ix1 o)) (fun o => m ((c : Thread nD τ).loc main_arg11) (ix1 o))
    (fun o => m ((c : Thread nD τ).loc main_arg12) (ix2 o 0)) (m ((c : Thread nD τ).loc main_arg13) (ix1 0))

/-- The layer norm's and the head's rows depend on the blocks only through what they hold at coordinates. -/
theorem score_of (z : Fin 768 → EReal) (g g' b b' w w' : Fin 768 → EReal) (k k' : EReal) (hg : ∀ o, g o = g' o) (hb : ∀ o, b o = b' o)
    (hw : ∀ o, w o = w' o) (hk : k = k') : score z g b w k = score z g' b' w' k' := by
  rw [funext hg, funext hb, funext hw, hk]

/-- The last point leaves the answer in the result block. -/
theorem last_eq (hr : ∀ j, m ((c : Thread nD τ).loc main_arg1) j = BitVec.ofNat 32 r.val) (t : Fin (cfgM m hO).N) (h7 : t.val = 7) :
    (outsAt0 m hO c t.val t.isLt).1 (ix2 0 0) = answer m c r := by
  have hs : ∀ o, (outsAt0 m hO c (t.val - 1) (Nat.lt_of_le_of_lt (Nat.sub_le _ _) t.isLt)).2 (ix2 0 o)
      + part (iblk m hO c 0 t) (iblk m hO c 1 t) (iblk m hO c 2 t) (iblk m hO c 3 t) r 7 o = total m c r o := fun o => by
    rw [part_eq m hO c r t 7 h7.symm o, scratch_eq m hO c r hr o (t.val - 1) _ (by omega), ← Nat.sub_add_cancel (show 1 ≤ t.val by omega),
      Nat.add_sub_cancel, ← Finset.sum_range_succ, Nat.sub_add_cancel (show 1 ≤ t.val by omega), h7, Finset.sum_range]
    exact Finset.sum_congr rfl fun i _ => termAt_of_lt m c r i.isLt o
  rw [outsAt0_C m hO c t (by omega) (by omega) (by omega)]
  dsimp only
  refine (out_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) r 7 _ _ _ (outsAt0 m hO c (t.val - 1) (Nat.lt_of_le_of_lt (Nat.sub_le _ _) t.isLt)).2 ((coord t).trans h7) (word_eq m c r hr) (total m c r) hs).trans ?_
  exact score_of _ _ _ _ _ _ _ _ _ (block4 m hO c t) (block5 m hO c t) (block6 m hO c t) (block7 m hO c t)

/-- The result array: the one entry, the answer. -/
abbrev result : Buf (Elt Ideal) ((c : Thread nD τ).loc main_v2) := (fun _ => answer m c r : Vec Ideal S1x1 .f32)

/-- A point that writes the result block back writes the answer. -/
theorem flushed_eq (hr : ∀ j, m ((c : Thread nD τ).loc main_arg1) j = BitVec.ofNat 32 r.val) (t : Fin (cfgM m hO).N)
    (hf : ((cfgM m hO).win 8).flush t = true) :
    (dats m hO 0 c).flushed 8 t = (((cfgM m hO).win 8).blk t).view.read (Elt Ideal) (result m c r) := by
  have hN : (cfgM m hO).N = 8 := N_0
  have h7 : t.val = 7 := by have := (flush0_8 (adm m hO) t).mp hf; have := t.isLt; omega
  have hl := last_eq m hO c r hr t h7
  show ((cfgM m hO).win 8).cut (grid0.coords t) ((dats m hO 0 c).after 8 t) = _
  rw [after0_8]
  have hy : (outsAt0 m hO c t.val t.isLt).1 = fun _ => answer m c r := by
    funext j
    rw [← hl]
    exact congrArg _ (funext fun a => by fin_cases a <;> exact Subsingleton.elim (α := Fin 1) _ _)
  rw [hy]
  funext j
  show answer m c r = _
  symm
  refine (View.read_apply ..).trans ?_
  rfl

/-- The last point's block is the whole array. -/
theorem covered (i : S1x1.Idx) : i ∈ (((cfgM m hO).win 8).blk t0_7).view.set := by
  refine (congrArg (i ∈ ·) (View.set_slice_whole main_v2 (((cfgM m hO).win 8).rect t0_7))).mpr (Rect.mem_set_unit.mpr fun a => ?_)
  have h0 : (i 0 : Nat) < 1 := (i 0).isLt
  have h1 : (i 1 : Nat) < 1 := (i 1).isLt
  match a with
  | ⟨0, _⟩ => show 0 * 1 ≤ (i 0 : Nat) ∧ (i 0 : Nat) < 0 * 1 + 1; omega
  | ⟨1, _⟩ => show 0 * 1 ≤ (i 1 : Nat) ∧ (i 1 : Nat) < 0 * 1 + 1; omega

/-- The result array ends holding the answer. -/
theorem final (hr : ∀ j, m ((c : Thread nD τ).loc main_arg1) j = BitVec.ofNat 32 r.val) :
    (dats m hO 0 c).arrAt 8 (cfgM m hO).N = result m c r :=
  (dats m hO 0 c).arrAt_eq_of_cover 8 (result m c r) (flushed_eq m hO c r hr) fun i =>
    ⟨t0_7, (flush0_8 (adm m hO) t0_7).mpr rfl, covered m hO i⟩

end Cert.Moe

end
-- ==== Proof.RefStages.lean ====
/-
  The reference, one operation at a time: what each of its operations writes, as a function of the arguments it depends on.
-/
module

public import proofs.«01_k».proof.Proof.Gen.ReferenceIdeal
public import Idealize.ShloMosaic.Lib.Pipeline.Value

@[expose] public section

set_option maxRecDepth 16384

noncomputable section

namespace Cert.Moe.Ref

open Cert.ReferenceIdeal Cert.ReferenceIdeal.Gen Idealize.ShloMosaic Idealize.ShloMosaic.TcCoe Idealize.SL.Sem Idealize.ShloMosaic.StableHlo

/-- An array of shape `s` with elements `t`. -/
abbrev Arr (F : FTy → Type) (s : Shape) (t : EltTy) : Type := (⟨s, t⟩ : BufTy).Contents (Elt F)

variable {F : FTy → Type} [FloatOps F]

def val_main_v0 (x0 : Arr F S1x2048x768 .f32) : Arr F S2048x768 .f32 :=
  shapeCast _ (x0) shapeCasts_S1x2048x768_S2048x768

def val_main_v1 (x3 : Arr F S2x8 .f32) : Arr F S1x8 .f32 :=
  extractStridedSlice S1x8 ![0, 0] (x3) slices_S2x8_S1x8_0_0

def val_main_v2 (x3 : Arr F S2x8 .f32) : Arr F S8 .f32 :=
  shapeCast _ (val_main_v1 (F := F) x3) shapeCasts_S1x8_S8

def val_main_cst : Arr F S_ .f32 :=
  constant S_ .f32 0xFF800000#32

def val_main_v3 (x3 : Arr F S2x8 .f32) : Arr F S_ .f32 :=
  Host.reduce FloatOps.maximumf (val_main_v2 (F := F) x3) (val_main_cst (F := F)) reducesTo_S8_S_d0 h_S_

def val_main_cst_0 : Arr F S_ .f32 :=
  constant S_ .f32 0xFF800000#32

def val_main_v4 (x3 : Arr F S2x8 .f32) : Arr F S_ .f32 :=
  maximumf (val_main_cst_0 (F := F)) (val_main_v3 (F := F) x3)

def val_main_v5 (x3 : Arr F S2x8 .f32) : Arr F S1 .f32 :=
  broadcastInDim S1 ![] bcast_S_S1 (val_main_v4 (F := F) x3)

def val_main_v6 (x3 : Arr F S2x8 .f32) : Arr F S8 .f32 :=
  broadcastInDim S8 ![0] bcast_S1_S8_0 (val_main_v5 (F := F) x3)

def val_main_v7 (x3 : Arr F S2x8 .f32) : Arr F S8 .f32 :=
  subf (val_main_v2 (F := F) x3) (val_main_v6 (F := F) x3)

def val_main_v8 (x3 : Arr F S2x8 .f32) : Arr F S8 .f32 :=
  Host.exp (val_main_v7 (F := F) x3)

def val_main_cst_1 : Arr F S_ .f32 :=
  constant S_ .f32 0x00000000#32

def val_main_v9 (x3 : Arr F S2x8 .f32) : Arr F S_ .f32 :=
  Host.reduceAdd (val_main_v8 (F := F) x3) (val_main_cst_1 (F := F)) reducesTo_S8_S_d0 h_S_

def val_main_v10 (x3 : Arr F S2x8 .f32) : Arr F S1 .f32 :=
  broadcastInDim S1 ![] bcast_S_S1 (val_main_v9 (F := F) x3)

def val_main_v11 (x3 : Arr F S2x8 .f32) : Arr F S8 .f32 :=
  broadcastInDim S8 ![0] bcast_S1_S8_0 (val_main_v10 (F := F) x3)

def val_main_v12 (x3 : Arr F S2x8 .f32) : Arr F S8 .f32 :=
  Host.divf (val_main_v8 (F := F) x3) (val_main_v11 (F := F) x3)

def val_main_v13 (x0 : Arr F S1x2048x768 .f32) (x6 : Arr F S8x768x768 .f32) : Arr F S8x768x2048 .f32 :=
  Host.dotGeneral dot_S8x768x768_S2048x768_S8x768x2048_1_1_02_0_n_n none (x6) (val_main_v0 (F := F) x0)

def val_main_v14 (x0 : Arr F S1x2048x768 .f32) (x6 : Arr F S8x768x768 .f32) : Arr F S8x2048x768 .f32 :=
  transpose S8x2048x768 [0, 2, 1] (val_main_v13 (F := F) x0 x6) transposes_S8x768x2048_S8x2048x768_0_2_1

def val_main_v15 (x7 : Arr F S8x768 .f32) : Arr F S8x1x768 .f32 :=
  broadcastInDim S8x1x768 ![0, 2] bcast_S8x768_S8x1x768_0_2 (x7)

def val_main_v16 (x7 : Arr F S8x768 .f32) : Arr F S8x2048x768 .f32 :=
  broadcastInDim S8x2048x768 ![0, 1, 2] bcast_S8x1x768_S8x2048x768_0_1_2 (val_main_v15 (F := F) x7)

def val_main_v17 (x0 : Arr F S1x2048x768 .f32) (x6 : Arr F S8x768x768 .f32) (x7 : Arr F S8x768 .f32) : Arr F S8x2048x768 .f32 :=
  addf (val_main_v14 (F := F) x0 x6) (val_main_v16 (F := F) x7)

def val_main_cst_2 : Arr F S_ .f32 :=
  constant S_ .f32 0x00000000#32

def val_main_v18 : Arr F S8x2048x768 .f32 :=
  broadcastInDim S8x2048x768 ![] bcast_S_S8x2048x768 (val_main_cst_2 (F := F))

def val_main_v19 (x0 : Arr F S1x2048x768 .f32) (x6 : Arr F S8x768x768 .f32) (x7 : Arr F S8x768 .f32) : Arr F S8x2048x768 .f32 :=
  maximumf (val_main_v17 (F := F) x0 x6 x7) (val_main_v18 (F := F))

def val_main_v20 (x0 : Arr F S1x2048x768 .f32) (x6 : Arr F S8x768x768 .f32) (x7 : Arr F S8x768 .f32) (x8 : Arr F S8x768x768 .f32) : Arr F S8x2048x768 .f32 :=
  Host.dotGeneral dot_S8x2048x768_S8x768x768_S8x2048x768_2_1_1_2_0_0 none (val_main_v19 (F := F) x0 x6 x7) (x8)

def val_main_v21 (x9 : Arr F S8x768 .f32) : Arr F S8x1x768 .f32 :=
  broadcastInDim S8x1x768 ![0, 2] bcast_S8x768_S8x1x768_0_2 (x9)

def val_main_v22 (x9 : Arr F S8x768 .f32) : Arr F S8x2048x768 .f32 :=
  broadcastInDim S8x2048x768 ![0, 1, 2] bcast_S8x1x768_S8x2048x768_0_1_2 (val_main_v21 (F := F) x9)

def val_main_v23 (x0 : Arr F S1x2048x768 .f32) (x6 : Arr F S8x768x768 .f32) (x7 : Arr F S8x768 .f32) (x8 : Arr F S8x768x768 .f32) (x9 : Arr F S8x768 .f32) : Arr F S8x2048x768 .f32 :=
  addf (val_main_v20 (F := F) x0 x6 x7 x8) (val_main_v22 (F := F) x9)

def val_main_v24 (x0 : Arr F S1x2048x768 .f32) (x3 : Arr F S2x8 .f32) (x6 : Arr F S8x768x768 .f32) (x7 : Arr F S8x768 .f32) (x8 : Arr F S8x768x768 .f32) (x9 : Arr F S8x768 .f32) : Arr F S2048x768 .f32 :=
  Host.dotGeneral dot_S8_S8x2048x768_S2048x768_0_0_n_12_n_n none (val_main_v12 (F := F) x3) (val_main_v23 (F := F) x0 x6 x7 x8 x9)

def val_main_v25 (x3 : Arr F S2x8 .f32) : Arr F S1x8 .f32 :=
  extractStridedSlice S1x8 ![1, 0] (x3) slices_S2x8_S1x8_1_0

def val_main_v26 (x3 : Arr F S2x8 .f32) : Arr F S8 .f32 :=
  shapeCast _ (val_main_v25 (F := F) x3) shapeCasts_S1x8_S8

def val_main_cst_3 : Arr F S_ .f32 :=
  constant S_ .f32 0xFF800000#32

def val_main_v27 (x3 : Arr F S2x8 .f32) : Arr F S_ .f32 :=
  Host.reduce FloatOps.maximumf (val_main_v26 (F := F) x3) (val_main_cst_3 (F := F)) reducesTo_S8_S_d0 h_S_

def val_main_cst_4 : Arr F S_ .f32 :=
  constant S_ .f32 0xFF800000#32

def val_main_v28 (x3 : Arr F S2x8 .f32) : Arr F S_ .f32 :=
  maximumf (val_main_cst_4 (F := F)) (val_main_v27 (F := F) x3)

def val_main_v29 (x3 : Arr F S2x8 .f32) : Arr F S1 .f32 :=
  broadcastInDim S1 ![] bcast_S_S1 (val_main_v28 (F := F) x3)

def val_main_v30 (x3 : Arr F S2x8 .f32) : Arr F S8 .f32 :=
  broadcastInDim S8 ![0] bcast_S1_S8_0 (val_main_v29 (F := F) x3)

def val_main_v31 (x3 : Arr F S2x8 .f32) : Arr F S8 .f32 :=
  subf (val_main_v26 (F := F) x3) (val_main_v30 (F := F) x3)

def val_main_v32 (x3 : Arr F S2x8 .f32) : Arr F S8 .f32 :=
  Host.exp (val_main_v31 (F := F) x3)

def val_main_cst_5 : Arr F S_ .f32 :=
  constant S_ .f32 0x00000000#32

def val_main_v33 (x3 : Arr F S2x8 .f32) : Arr F S_ .f32 :=
  Host.reduceAdd (val_main_v32 (F := F) x3) (val_main_cst_5 (F := F)) reducesTo_S8_S_d0 h_S_

def val_main_v34 (x3 : Arr F S2x8 .f32) : Arr F S1 .f32 :=
  broadcastInDim S1 ![] bcast_S_S1 (val_main_v33 (F := F) x3)

def val_main_v35 (x3 : Arr F S2x8 .f32) : Arr F S8 .f32 :=
  broadcastInDim S8 ![0] bcast_S1_S8_0 (val_main_v34 (F := F) x3)

def val_main_v36 (x3 : Arr F S2x8 .f32) : Arr F S8 .f32 :=
  Host.divf (val_main_v32 (F := F) x3) (val_main_v35 (F := F) x3)

def val_main_v37 (x0 : Arr F S1x2048x768 .f32) (x6 : Arr F S8x768x768 .f32) : Arr F S8x768x2048 .f32 :=
  Host.dotGeneral dot_S8x768x768_S2048x768_S8x768x2048_1_1_02_0_n_n none (x6) (val_main_v0 (F := F) x0)

def val_main_v38 (x0 : Arr F S1x2048x768 .f32) (x6 : Arr F S8x768x768 .f32) : Arr F S8x2048x768 .f32 :=
  transpose S8x2048x768 [0, 2, 1] (val_main_v37 (F := F) x0 x6) transposes_S8x768x2048_S8x2048x768_0_2_1

def val_main_v39 (x7 : Arr F S8x768 .f32) : Arr F S8x1x768 .f32 :=
  broadcastInDim S8x1x768 ![0, 2] bcast_S8x768_S8x1x768_0_2 (x7)

def val_main_v40 (x7 : Arr F S8x768 .f32) : Arr F S8x2048x768 .f32 :=
  broadcastInDim S8x2048x768 ![0, 1, 2] bcast_S8x1x768_S8x2048x768_0_1_2 (val_main_v39 (F := F) x7)

def val_main_v41 (x0 : Arr F S1x2048x768 .f32) (x6 : Arr F S8x768x768 .f32) (x7 : Arr F S8x768 .f32) : Arr F S8x2048x768 .f32 :=
  addf (val_main_v38 (F := F) x0 x6) (val_main_v40 (F := F) x7)

def val_main_cst_6 : Arr F S_ .f32 :=
  constant S_ .f32 0x00000000#32

def val_main_v42 : Arr F S8x2048x768 .f32 :=
  broadcastInDim S8x2048x768 ![] bcast_S_S8x2048x768 (val_main_cst_6 (F := F))

def val_main_v43 (x0 : Arr F S1x2048x768 .f32) (x6 : Arr F S8x768x768 .f32) (x7 : Arr F S8x768 .f32) : Arr F S8x2048x768 .f32 :=
  maximumf (val_main_v41 (F := F) x0 x6 x7) (val_main_v42 (F := F))

def val_main_v44 (x0 : Arr F S1x2048x768 .f32) (x6 : Arr F S8x768x768 .f32) (x7 : Arr F S8x768 .f32) (x8 : Arr F S8x768x768 .f32) : Arr F S8x2048x768 .f32 :=
  Host.dotGeneral dot_S8x2048x768_S8x768x768_S8x2048x768_2_1_1_2_0_0 none (val_main_v43 (F := F) x0 x6 x7) (x8)

def val_main_v45 (x9 : Arr F S8x768 .f32) : Arr F S8x1x768 .f32 :=
  broadcastInDim S8x1x768 ![0, 2] bcast_S8x768_S8x1x768_0_2 (x9)

def val_main_v46 (x9 : Arr F S8x768 .f32) : Arr F S8x2048x768 .f32 :=
  broadcastInDim S8x2048x768 ![0, 1, 2] bcast_S8x1x768_S8x2048x768_0_1_2 (val_main_v45 (F := F) x9)

def val_main_v47 (x0 : Arr F S1x2048x768 .f32) (x6 : Arr F S8x768x768 .f32) (x7 : Arr F S8x768 .f32) (x8 : Arr F S8x768x768 .f32) (x9 : Arr F S8x768 .f32) : Arr F S8x2048x768 .f32 :=
  addf (val_main_v44 (F := F) x0 x6 x7 x8) (val_main_v46 (F := F) x9)

def val_main_v48 (x0 : Arr F S1x2048x768 .f32) (x3 : Arr F S2x8 .f32) (x6 : Arr F S8x768x768 .f32) (x7 : Arr F S8x768 .f32) (x8 : Arr F S8x768x768 .f32) (x9 : Arr F S8x768 .f32) : Arr F S2048x768 .f32 :=
  Host.dotGeneral dot_S8_S8x2048x768_S2048x768_0_0_n_12_n_n none (val_main_v36 (F := F) x3) (val_main_v47 (F := F) x0 x6 x7 x8 x9)

def val_main_v49 (x0 : Arr F S1x2048x768 .f32) (x3 : Arr F S2x8 .f32) (x6 : Arr F S8x768x768 .f32) (x7 : Arr F S8x768 .f32) (x8 : Arr F S8x768x768 .f32) (x9 : Arr F S8x768 .f32) : Arr F S1x2048x768 .f32 :=
  broadcastInDim S1x2048x768 ![1, 2] bcast_S2048x768_S1x2048x768_1_2 (val_main_v24 (F := F) x0 x3 x6 x7 x8 x9)

def val_main_v50 (x0 : Arr F S1x2048x768 .f32) (x3 : Arr F S2x8 .f32) (x6 : Arr F S8x768x768 .f32) (x7 : Arr F S8x768 .f32) (x8 : Arr F S8x768x768 .f32) (x9 : Arr F S8x768 .f32) : Arr F S1x2048x768 .f32 :=
  broadcastInDim S1x2048x768 ![1, 2] bcast_S2048x768_S1x2048x768_1_2 (val_main_v48 (F := F) x0 x3 x6 x7 x8 x9)

def val_main_v51 (x0 : Arr F S1x2048x768 .f32) (x3 : Arr F S2x8 .f32) (x6 : Arr F S8x768x768 .f32) (x7 : Arr F S8x768 .f32) (x8 : Arr F S8x768x768 .f32) (x9 : Arr F S8x768 .f32) : Arr F S2x2048x768 .f32 :=
  concatenate S2x2048x768 0 [⟨S1x2048x768, (val_main_v49 (F := F) x0 x3 x6 x7 x8 x9)⟩, ⟨S1x2048x768, (val_main_v50 (F := F) x0 x3 x6 x7 x8 x9)⟩] concatenates_S1x2048x768_S1x2048x768_S2x2048x768_d0

def val_main_v52 (x1 : Arr F S1 .i32) : Arr F S_ .i32 :=
  shapeCast _ (x1) shapeCasts_S1_S_

def val_main_c : Arr F S_ .i32 :=
  constantI S_ 32 0#32

def val_main_v53 (x1 : Arr F S1 .i32) : Arr F S_ .i1 :=
  cmpi .slt (val_main_v52 (F := F) x1) (val_main_c (F := F))

def val_main_c_7 : Arr F S_ .i32 :=
  constantI S_ 32 2#32

def val_main_v54 (x1 : Arr F S1 .i32) : Arr F S_ .i32 :=
  addi (val_main_v52 (F := F) x1) (val_main_c_7 (F := F))

def val_main_v55 (x1 : Arr F S1 .i32) : Arr F S_ .i32 :=
  select (val_main_v53 (F := F) x1) (val_main_v54 (F := F) x1) (val_main_v52 (F := F) x1)

def val_main_c_8 : Arr F S_ .i32 :=
  constantI S_ 32 0#32

def val_main_c_9 : Arr F S_ .i32 :=
  constantI S_ 32 0#32

def val_main_v56 : Arr F S_ .i1 :=
  cmpi .slt (val_main_c_8 (F := F)) (val_main_c_9 (F := F))

def val_main_c_10 : Arr F S_ .i32 :=
  constantI S_ 32 0#32

def val_main_c_11 : Arr F S_ .i32 :=
  constantI S_ 32 2048#32

def val_main_v57 : Arr F S_ .i32 :=
  addi (val_main_c_10 (F := F)) (val_main_c_11 (F := F))

def val_main_c_12 : Arr F S_ .i32 :=
  constantI S_ 32 0#32

def val_main_v58 : Arr F S_ .i32 :=
  select (val_main_v56 (F := F)) (val_main_v57 (F := F)) (val_main_c_12 (F := F))

def val_main_c_13 : Arr F S_ .i32 :=
  constantI S_ 32 0#32

def val_main_c_14 : Arr F S_ .i32 :=
  constantI S_ 32 0#32

def val_main_v59 : Arr F S_ .i1 :=
  cmpi .slt (val_main_c_13 (F := F)) (val_main_c_14 (F := F))

def val_main_c_15 : Arr F S_ .i32 :=
  constantI S_ 32 0#32

def val_main_c_16 : Arr F S_ .i32 :=
  constantI S_ 32 768#32

def val_main_v60 : Arr F S_ .i32 :=
  addi (val_main_c_15 (F := F)) (val_main_c_16 (F := F))

def val_main_c_17 : Arr F S_ .i32 :=
  constantI S_ 32 0#32

def val_main_v61 : Arr F S_ .i32 :=
  select (val_main_v59 (F := F)) (val_main_v60 (F := F)) (val_main_c_17 (F := F))

def val_main_v62 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x2048x768 .f32 :=
  Host.dynamicSlice S1x2048x768 (val_main_v51 (F := F) x0 x3 x6 x7 x8 x9) (fun k => (((![val_main_v55 (F := F) x1, val_main_v58 (F := F), val_main_v61 (F := F)] : Fin 3 → Arr F S_ .i32)) k (Shape.Idx.first h_S_)).toInt) sliceFits_S2x2048x768_S1x2048x768

def val_main_v63 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S2048x768 .f32 :=
  shapeCast _ (val_main_v62 (F := F) x0 x1 x3 x6 x7 x8 x9) shapeCasts_S1x2048x768_S2048x768

def val_main_v64 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x2048x768 .f32 :=
  shapeCast _ (val_main_v63 (F := F) x0 x1 x3 x6 x7 x8 x9) shapeCasts_S2048x768_S1x2048x768

def val_main_cst_18 : Arr F S_ .f32 :=
  constant S_ .f32 0x00000000#32

def val_main_v65 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  Host.reduceAdd (val_main_v64 (F := F) x0 x1 x3 x6 x7 x8 x9) (val_main_cst_18 (F := F)) reducesTo_S1x2048x768_S1x768_d1 h_S_

def val_main_cst_19 : Arr F S_ .f32 :=
  constant S_ .f32 0x00000000#32

def val_main_v66 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1 .f32 :=
  Host.reduceAdd (val_main_v65 (F := F) x0 x1 x3 x6 x7 x8 x9) (val_main_cst_19 (F := F)) reducesTo_S1x768_S1_d1 h_S_

def val_main_v67 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  broadcastInDim S1x1 ![0] bcast_S1_S1x1_0 (val_main_v66 (F := F) x0 x1 x3 x6 x7 x8 x9)

def val_main_cst_20 : Arr F S_ .f32 :=
  constant S_ .f32 0x44400000#32

def val_main_v68 : Arr F S1x1 .f32 :=
  broadcastInDim S1x1 ![] bcast_S_S1x1 (val_main_cst_20 (F := F))

def val_main_v69 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  Host.divf (val_main_v67 (F := F) x0 x1 x3 x6 x7 x8 x9) (val_main_v68 (F := F))

def val_main_c_21 : Arr F S_ .i32 :=
  constantI S_ 32 0#32

def val_main_call0_cst : Arr F S_ .f32 :=
  constant S_ .f32 0x00000000#32

def val_main_call0_v0 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1 .f32 :=
  Host.reduceAdd (val_main_v65 (F := F) x0 x1 x3 x6 x7 x8 x9) (val_main_call0_cst (F := F)) reducesTo_S1x768_S1_d1 h_S_

def val_main_call0_v1 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  broadcastInDim S1x1 ![0] bcast_S1_S1x1_0 (val_main_call0_v0 (F := F) x0 x1 x3 x6 x7 x8 x9)

def val_main_call0_cst_0 : Arr F S_ .f32 :=
  constant S_ .f32 0x44400000#32

def val_main_call0_v2 : Arr F S1x1 .f32 :=
  broadcastInDim S1x1 ![] bcast_S_S1x1 (val_main_call0_cst_0 (F := F))

def val_main_call0_v3 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  Host.divf (val_main_call0_v1 (F := F) x0 x1 x3 x6 x7 x8 x9) (val_main_call0_v2 (F := F))

def val_main_call0_v4 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  broadcastInDim S1x768 ![0, 1] bcast_S1x1_S1x768_0_1 (val_main_call0_v3 (F := F) x0 x1 x3 x6 x7 x8 x9)

def val_main_call0_v5 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  subf (val_main_v65 (F := F) x0 x1 x3 x6 x7 x8 x9) (val_main_call0_v4 (F := F) x0 x1 x3 x6 x7 x8 x9)

def val_main_call0_v6 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  mulf (val_main_call0_v5 (F := F) x0 x1 x3 x6 x7 x8 x9) (val_main_call0_v5 (F := F) x0 x1 x3 x6 x7 x8 x9)

def val_main_call0_v7 : Arr F S_ .f32 :=
  sitofp .f32 (val_main_c_21 (F := F))

def val_main_call0_cst_1 : Arr F S_ .f32 :=
  constant S_ .f32 0x44400000#32

def val_main_call0_v8 : Arr F S_ .f32 :=
  subf (val_main_call0_cst_1 (F := F)) (val_main_call0_v7 (F := F))

def val_main_call0_cst_2 : Arr F S_ .f32 :=
  constant S_ .f32 0x00000000#32

def val_main_call0_v9 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1 .f32 :=
  Host.reduceAdd (val_main_call0_v6 (F := F) x0 x1 x3 x6 x7 x8 x9) (val_main_call0_cst_2 (F := F)) reducesTo_S1x768_S1_d1 h_S_

def val_main_call0_v10 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  broadcastInDim S1x1 ![0] bcast_S1_S1x1_0 (val_main_call0_v9 (F := F) x0 x1 x3 x6 x7 x8 x9)

def val_main_call0_v11 : Arr F S1x1 .f32 :=
  broadcastInDim S1x1 ![] bcast_S_S1x1 (val_main_call0_v8 (F := F))

def val_main_call0_v12 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  Host.divf (val_main_call0_v10 (F := F) x0 x1 x3 x6 x7 x8 x9) (val_main_call0_v11 (F := F))

def val_main_call0_cst_3 : Arr F S_ .f32 :=
  constant S_ .f32 0x00000000#32

def val_main_call0_v13 : Arr F S_ .i1 :=
  cmpf .ogt (val_main_call0_v8 (F := F)) (val_main_call0_cst_3 (F := F))

def val_main_call0_cst_4 : Arr F S_ .f32 :=
  constant S_ .f32 0x7FC00000#32

def val_main_call0_call0_v0 : Arr F S_ .f32 :=
  id (val_main_call0_cst_4 (F := F))

def val_main_call0_call0_v1 : Arr F S1x1 .f32 :=
  broadcastInDim S1x1 ![] bcast_S_S1x1 (val_main_call0_call0_v0 (F := F))

def val_main_v70 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  select (broadcastInDim S1x1 ![] bcast_S_S1x1 (val_main_call0_v13 (F := F))) (val_main_call0_v12 (F := F) x0 x1 x3 x6 x7 x8 x9) (val_main_call0_call0_v1 (F := F))

def val_main_v71 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  broadcastInDim S1x768 ![0, 1] bcast_S1x1_S1x768_0_1 (val_main_v69 (F := F) x0 x1 x3 x6 x7 x8 x9)

def val_main_v72 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  subf (val_main_v65 (F := F) x0 x1 x3 x6 x7 x8 x9) (val_main_v71 (F := F) x0 x1 x3 x6 x7 x8 x9)

def val_main_cst_22 : Arr F S_ .f32 :=
  constant S_ .f32 0x3727C5AC#32

def val_main_v73 : Arr F S1x1 .f32 :=
  broadcastInDim S1x1 ![] bcast_S_S1x1 (val_main_cst_22 (F := F))

def val_main_v74 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  addf (val_main_v70 (F := F) x0 x1 x3 x6 x7 x8 x9) (val_main_v73 (F := F))

def val_main_v75 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x1 .f32 :=
  Host.sqrt (val_main_v74 (F := F) x0 x1 x3 x6 x7 x8 x9)

def val_main_v76 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  broadcastInDim S1x768 ![0, 1] bcast_S1x1_S1x768_0_1 (val_main_v75 (F := F) x0 x1 x3 x6 x7 x8 x9)

def val_main_v77 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) : Arr F S1x768 .f32 :=
  Host.divf (val_main_v72 (F := F) x0 x1 x3 x6 x7 x8 x9) (val_main_v76 (F := F) x0 x1 x3 x6 x7 x8 x9)

def val_main_v78 (x10 : Arr F S768 .f32) : Arr F S1x768 .f32 :=
  broadcastInDim S1x768 ![1] bcast_S768_S1x768_1 (x10)

def val_main_v79 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 : Arr F S768 .f32) : Arr F S1x768 .f32 :=
  mulf (val_main_v77 (F := F) x0 x1 x3 x6 x7 x8 x9) (val_main_v78 (F := F) x10)

def val_main_v80 (x11 : Arr F S768 .f32) : Arr F S1x768 .f32 :=
  broadcastInDim S1x768 ![1] bcast_S768_S1x768_1 (x11)

def val_main_v81 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) : Arr F S1x768 .f32 :=
  addf (val_main_v79 (F := F) x0 x1 x3 x6 x7 x8 x9 x10) (val_main_v80 (F := F) x11)

def val_main_v82 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) : Arr F S1x1 .f32 :=
  Host.dotGeneral dot_S1x768_S768x1_S1x1_1_0_0_1_n_n none (val_main_v81 (F := F) x0 x1 x3 x6 x7 x8 x9 x10 x11) (x12)

def val_main_v83 (x13 : Arr F S1 .f32) : Arr F S1x1 .f32 :=
  broadcastInDim S1x1 ![1] bcast_S1_S1x1_1 (x13)

def val_main_v84 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) (x13 : Arr F S1 .f32) : Arr F S1x1 .f32 :=
  addf (val_main_v82 (F := F) x0 x1 x3 x6 x7 x8 x9 x10 x11 x12) (val_main_v83 (F := F) x13)

def val_main_v85 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) (x13 : Arr F S1 .f32) : Arr F S1x1 .f32 :=
  Host.negf (val_main_v84 (F := F) x0 x1 x3 x6 x7 x8 x9 x10 x11 x12 x13)

def val_main_v86 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) (x13 : Arr F S1 .f32) : Arr F S1x1 .f32 :=
  Host.exp (val_main_v85 (F := F) x0 x1 x3 x6 x7 x8 x9 x10 x11 x12 x13)

def val_main_cst_23 : Arr F S_ .f32 :=
  constant S_ .f32 0x3F800000#32

def val_main_v87 : Arr F S1x1 .f32 :=
  broadcastInDim S1x1 ![] bcast_S_S1x1 (val_main_cst_23 (F := F))

def val_main_v88 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) (x13 : Arr F S1 .f32) : Arr F S1x1 .f32 :=
  addf (val_main_v87 (F := F)) (val_main_v86 (F := F) x0 x1 x3 x6 x7 x8 x9 x10 x11 x12 x13)

def val_main_cst_24 : Arr F S_ .f32 :=
  constant S_ .f32 0x3F800000#32

def val_main_v89 : Arr F S1x1 .f32 :=
  broadcastInDim S1x1 ![] bcast_S_S1x1 (val_main_cst_24 (F := F))

def val_main_v90 (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 x11 : Arr F S768 .f32) (x12 : Arr F S768x1 .f32) (x13 : Arr F S1 .f32) : Arr F S1x1 .f32 :=
  Host.divf (val_main_v89 (F := F)) (val_main_v88 (F := F) x0 x1 x3 x6 x7 x8 x9 x10 x11 x12 x13)

end Cert.Moe.Ref

end
-- ==== Proof.RefValue.lean ====
/-
  The reference's stages at an index, over the extended reals, in the closed forms of `Formula.lean`.
-/
module

public import proofs.«01_k».proof.Proof.Formula
public import proofs.«01_k».proof.Proof.Consts
public import proofs.«01_k».proof.Proof.RefStages
public import Idealize.ShloMosaic.Lib.Pointwise
public import Idealize.ShloMosaic.Lib.IdealHost
public import Idealize.ShloMosaic.Lib.Tactic

@[expose] public section

set_option maxRecDepth 16384

noncomputable section

namespace Cert.Moe

open Idealize.ShloMosaic Idealize.ShloMosaic.TcCoe
open Cert.ReferenceIdeal Cert.ReferenceIdeal.Gen Cert.Moe.Ref

variable (x0 : Vec Ideal S1x2048x768 .f32) (x1 : Vec Ideal S1 .i32) (x3 : Vec Ideal S2x8 .f32)
  (x6 : Vec Ideal S8x768x768 .f32) (x7 : Vec Ideal S8x768 .f32) (x8 : Vec Ideal S8x768x768 .f32) (x9 : Vec Ideal S8x768 .f32)
  (x10 x11 : Vec Ideal S768 .f32) (x12 : Vec Ideal S768x1 .f32) (x13 : Vec Ideal S1 .f32)

/-- The reference takes the maximum once more against `⊥`, which changes nothing. -/
theorem top_eq (a : Fin 8 → EReal) :
    max (Ideal.ofBits .f32 0xFF800000#32) (Finset.fold max (Ideal.ofBits .f32 0xFF800000#32) a Finset.univ) = top a := by
  rw [ofBits_neg_inf]
  exact max_eq_right bot_le

/-- The softmax weights of task 0. -/
theorem softmax0 (e : Fin 8) : val_main_v12 (F := Ideal) x3 (ix1 e) = gate (fun e => x3 (ix2 0 e)) e := by
  pointwise [val_main_v12, val_main_v11, val_main_v10, val_main_v9, val_main_v8, val_main_v7, val_main_v6, val_main_v5,
    val_main_v4, val_main_v3, val_main_v2, val_main_v1, val_main_cst, val_main_cst_0, val_main_cst_1]
  have h := top_eq fun e => x3 (ix2 0 e)
  unfold gate
  rw [← h]

/-- The softmax weights of task 1. -/
theorem softmax1 (e : Fin 8) : val_main_v36 (F := Ideal) x3 (ix1 e) = gate (fun e => x3 (ix2 1 e)) e := by
  pointwise [val_main_v36, val_main_v35, val_main_v34, val_main_v33, val_main_v32, val_main_v31, val_main_v30, val_main_v29,
    val_main_v28, val_main_v27, val_main_v26, val_main_v25, val_main_cst_3, val_main_cst_4, val_main_cst_5]
  have h := top_eq fun e => x3 (ix2 1 e)
  unfold gate
  rw [← h]

/-- The reference's mixture of the experts' outputs at a token, for the logits `a` of one task. -/
def mixture (a : Fin 8 → EReal) (n : Fin 2048) (o : Fin 768) : EReal :=
  ∑ e, gate a e * (∑ k, max (∑ d, x6 (ix3 e d k) * x0 (ix3 0 n d) + x7 (ix2 e k)) 0 * x8 (ix3 e k o) + x9 (ix2 e o))

/-- The mixture of task 0. -/
theorem mixture0 (n : Fin 2048) (o : Fin 768) :
    val_main_v24 (F := Ideal) x0 x3 x6 x7 x8 x9 (ix2 n o) = mixture x0 x6 x7 x8 x9 (fun e => x3 (ix2 0 e)) n o := by
  pointwise [val_main_v24, val_main_v23, val_main_v22, val_main_v21, val_main_v20, val_main_v19, val_main_v18, val_main_v17,
    val_main_v16, val_main_v15, val_main_v14, val_main_v13, val_main_v0, val_main_cst_2, softmax0]
  rfl

/-- The mixture of task 1. -/
theorem mixture1 (n : Fin 2048) (o : Fin 768) :
    val_main_v48 (F := Ideal) x0 x3 x6 x7 x8 x9 (ix2 n o) = mixture x0 x6 x7 x8 x9 (fun e => x3 (ix2 1 e)) n o := by
  pointwise [val_main_v48, val_main_v47, val_main_v46, val_main_v45, val_main_v44, val_main_v43, val_main_v42, val_main_v41,
    val_main_v40, val_main_v39, val_main_v38, val_main_v37, val_main_v0, val_main_cst_6, softmax1]
  rfl

/-- The two mixtures side by side, read at a task. -/
theorem stacked (r : Fin 2) (n : Fin 2048) (o : Fin 768) :
    val_main_v51 (F := Ideal) x0 x3 x6 x7 x8 x9 (ix3 r n o) = mixture x0 x6 x7 x8 x9 (fun e => x3 (ix2 r e)) n o := by
  fin_cases r <;> pointwise [val_main_v51, val_main_v49, val_main_v50, mixture0, mixture1]

/-- The row the slice starts at is the task word. -/
theorem start0 (r : Fin 2) (hr : ∀ j, x1 j = BitVec.ofNat 32 r.val) (i : S_.Idx) :
    (val_main_v55 (F := Ideal) x1 i).toInt = ((r.val : ℕ) : ℤ) := by
  pointwise [val_main_v55, val_main_v54, val_main_v53, val_main_v52, val_main_c, val_main_c_7, hr]
  fin_cases r <;> decide

/-- The second coordinate of the slice starts at zero. -/
theorem start1 (i : S_.Idx) : (val_main_v58 (F := Ideal) i).toInt = ((0 : ℕ) : ℤ) := by
  pointwise [val_main_v58, val_main_v57, val_main_v56, val_main_c_8, val_main_c_9, val_main_c_10, val_main_c_11, val_main_c_12]
  decide

/-- So does the third. -/
theorem start2 (i : S_.Idx) : (val_main_v61 (F := Ideal) i).toInt = ((0 : ℕ) : ℤ) := by
  pointwise [val_main_v61, val_main_v60, val_main_v59, val_main_c_13, val_main_c_14, val_main_c_15, val_main_c_16, val_main_c_17]
  decide

/-- Where the slice starts, once the three start words are known. -/
theorem starts (h : S1x2048x768.rank = S2x2048x768.rank) (r : Fin 2) (st : Fin 3 → ℤ) (h0 : st 0 = (r.val : ℕ)) (h1 : st 1 = (0 : ℕ))
    (h2 : st 2 = (0 : ℕ)) :
    Host.clampedStart S2x2048x768 S1x2048x768 h st 0 = r.val ∧ Host.clampedStart S2x2048x768 S1x2048x768 h st 1 = 0
      ∧ Host.clampedStart S2x2048x768 S1x2048x768 h st 2 = 0 :=
  ⟨Host.clampedStart_of_le h st 0 r.val h0 (show r.val + 1 ≤ 2 by omega),
    Host.clampedStart_of_le h st 1 0 h1 (show 0 + 2048 ≤ 2048 by omega),
    Host.clampedStart_of_le h st 2 0 h2 (show 0 + 768 ≤ 768 by omega)⟩

/-- The slice reads the row of the task word. -/
theorem sliced (r : Fin 2) (hr : ∀ j, x1 j = BitVec.ofNat 32 r.val) (n : Fin 2048) (o : Fin 768) :
    val_main_v62 (F := Ideal) x0 x1 x3 x6 x7 x8 x9 (ix3 0 n o) = val_main_v51 (F := Ideal) x0 x3 x6 x7 x8 x9 (ix3 r n o) := by
  have h0 := start0 x1 r hr (Shape.Idx.first h_S_)
  have h1 := start1 (Shape.Idx.first h_S_)
  have h2 := start2 (Shape.Idx.first h_S_)
  pointwise [val_main_v62]
  generalize val_main_v51 (F := Ideal) x0 x3 x6 x7 x8 x9 = y
  generalize hst : (fun k => BitVec.toInt ((![val_main_v55 (F := Ideal) x1, val_main_v58, val_main_v61] : Fin 3 → _) k (Shape.Idx.first h_S_))) = st
  obtain ⟨e0, e1, e2⟩ := starts rfl r st (by rw [← hst]; exact h0) (by rw [← hst]; exact h1) (by rw [← hst]; exact h2)
  simp only [e0, e1, e2, Nat.zero_add]

/-- The sum over the tokens of the mixture of the task the word names. -/
theorem pooled (r : Fin 2) (hr : ∀ j, x1 j = BitVec.ofNat 32 r.val) (o : Fin 768) :
    val_main_v65 (F := Ideal) x0 x1 x3 x6 x7 x8 x9 (ix2 0 o)
      = ∑ n, mixture x0 x6 x7 x8 x9 (fun e => x3 (ix2 r e)) n o := by
  have h := fun n o => (sliced x0 x1 x3 x6 x7 x8 x9 r hr n o).trans (stacked x0 x3 x6 x7 x8 x9 r n o)
  pointwise [val_main_v65, val_main_v64, val_main_v63, val_main_cst_18, h]

/-- The reference's variance and mean of a row whose entries are `v`. -/
theorem scored (v : Fin 768 → EReal) (hv : ∀ o, val_main_v65 (F := Ideal) x0 x1 x3 x6 x7 x8 x9 (ix2 0 o) = v o) :
    val_main_v90 (F := Ideal) x0 x1 x3 x6 x7 x8 x9 x10 x11 x12 x13 (ix2 0 0)
      = score (fun o => Ideal.div (v o - mean v) (Ideal.sqrt (variance v + epsilon)))
          (fun o => x10 (ix1 o)) (fun o => x11 (ix1 o)) (fun o => x12 (ix2 o 0)) (x13 (ix1 0)) := by
  pointwise [val_main_v90, val_main_v89, val_main_v88, val_main_v87, val_main_v86, val_main_v85, val_main_v84, val_main_v83,
    val_main_v82, val_main_v81, val_main_v80, val_main_v79, val_main_v78, val_main_v77, val_main_v76, val_main_v75, val_main_v74,
    val_main_v73, val_main_v72, val_main_v71, val_main_v70, val_main_v69, val_main_v68, val_main_v67, val_main_v66,
    val_main_cst_19, val_main_cst_20, val_main_c_21, val_main_cst_22, val_main_cst_23, val_main_cst_24,
    val_main_call0_v0, val_main_call0_v1, val_main_call0_v2, val_main_call0_v3, val_main_call0_v4, val_main_call0_v5,
    val_main_call0_v6, val_main_call0_v7, val_main_call0_v8, val_main_call0_v9, val_main_call0_v10, val_main_call0_v11,
    val_main_call0_v12, val_main_call0_v13, val_main_call0_call0_v0, val_main_call0_call0_v1, val_main_call0_cst,
    val_main_call0_cst_0, val_main_call0_cst_1, val_main_call0_cst_2, val_main_call0_cst_3, val_main_call0_cst_4, hv]
  have hz : (FloatOps.sitofp (F := Ideal) .f32 (0#32 : BitVec 32) : EReal) = 0 := by
    show (((0#32 : BitVec 32).toInt : ℝ) : EReal) = 0
    simp
  rw [hz, sub_zero, if_pos (by rw [ofBits_768]; exact_mod_cast (by norm_num : (0 : ℝ) < 768))]
  unfold score variance mean
  rw [← ofBits_768]

end Cert.Moe

end
-- ==== Proof.Degenerate.lean ====
/-
  What is left of a layer norm when a gate is not a distribution. The extended reals let a logit be infinite; the softmax of
  a task with a logit `⊤`, or with every logit `⊥`, is `⊥` at every expert. A sum gated by `⊥` takes the values zero, `⊤` and
  `⊥` alone, and the layer norm of a row of such entries is zero throughout, so the order of the sums does not matter there
  either.
-/
module

public import proofs.«01_k».proof.Proof.Formula

@[expose] public section

noncomputable section

namespace Cert.Moe

open Idealize.ShloMosaic

/-- Zero or infinite. -/
def Extreme (x : EReal) : Prop := x = 0 ∨ x = ⊤ ∨ x = ⊥

/-- `⊥` times anything is zero or infinite. -/
theorem extreme_bot_mul (x : EReal) : Extreme (⊥ * x) := by
  rcases lt_trichotomy x 0 with h | rfl | h
  · exact Or.inr (Or.inl (EReal.bot_mul_of_neg h))
  · exact Or.inl (mul_zero _)
  · exact Or.inr (Or.inr (EReal.bot_mul_of_pos h))

/-- A sum of two such is one. -/
theorem Extreme.add {x y : EReal} (hx : Extreme x) (hy : Extreme y) : Extreme (x + y) := by
  rcases hx with rfl | rfl | rfl <;> rcases hy with rfl | rfl | rfl <;> simp [Extreme]

/-- So is a sum of any number of them. -/
theorem extreme_sum {ι : Type} (s : Finset ι) (f : ι → EReal) (hf : ∀ i, Extreme (f i)) : Extreme (∑ i ∈ s, f i) := by
  classical
  induction s using Finset.induction_on with
  | empty => exact Or.inl (by simp)
  | insert a s ha ih => rw [Finset.sum_insert ha]; exact (hf a).add ih

/-- If such a sum is zero then every term is: an infinite term cannot be cancelled. -/
theorem eq_zero_of_sum {ι : Type} (s : Finset ι) (f : ι → EReal) (hf : ∀ i, Extreme (f i)) (h : ∑ i ∈ s, f i = 0) :
    ∀ i ∈ s, f i = 0 := by
  classical
  induction s using Finset.induction_on with
  | empty => simp
  | insert a s ha ih =>
    rw [Finset.sum_insert ha] at h
    have hs := extreme_sum s f hf
    have h0 : f a = 0 ∧ ∑ i ∈ s, f i = 0 := by
      rcases hf a with e | e | e <;> rcases hs with e' | e' | e' <;> rw [e, e'] at h <;> simp_all
    intro i hi
    rcases Finset.mem_insert.mp hi with rfl | hi
    · exact h0.1
    · exact ih h0.2 i hi

/-- The square of a distance from an infinite mean is `⊤`. -/
theorem sq_sub_infinite (x μ : EReal) (hμ : μ = ⊤ ∨ μ = ⊥) : (x - μ) * (x - μ) = ⊤ := by
  rcases hμ with rfl | rfl
  · rw [EReal.sub_top]; simp
  · induction x with
    | bot => simp
    | top => simp
    | coe r => simp

/-- The layer norm of a row of zeros and infinities is zero. -/
theorem normalise_extreme (v : Fin 768 → EReal) (hv : ∀ o, Extreme (v o)) (ε : EReal) (hε : 0 < ε) (o : Fin 768) :
    (v o - mean v) * Ideal.rsqrt (variance v + ε) = 0 := by
  have h768 : (768 : ℝ) ≠ 0 := by norm_num
  have hp : (0 : ℝ) < 1 / 768 := by norm_num
  by_cases hs : ∑ o, v o = 0
  · have hm : mean v = 0 := by unfold mean; rw [hs, Ideal.div_coe h768, zero_mul]
    rw [hm, eq_zero_of_sum _ v hv hs o (Finset.mem_univ _), sub_zero, zero_mul]
  · have hm : mean v = ⊤ ∨ mean v = ⊥ := by
      unfold mean
      rw [Ideal.div_coe h768]
      rcases extreme_sum Finset.univ v hv with e | e | e
      · exact absurd e hs
      · rw [e]; exact Or.inl (EReal.top_mul_coe_of_pos hp)
      · rw [e]; exact Or.inr (EReal.bot_mul_coe_of_pos hp)
    have hq : ∑ o : Fin 768, (v o - mean v) * (v o - mean v) = ⊤ := by
      refine top_le_iff.mp (le_trans (le_of_eq (sq_sub_infinite (v 0) (mean v) hm).symm) ?_)
      exact Finset.single_le_sum (f := fun o => (v o - mean v) * (v o - mean v)) (fun o _ => sq_nonneg _) (Finset.mem_univ 0)
    have hvar : variance v = ⊤ := by
      unfold variance
      rw [hq, Ideal.div_coe h768]
      exact EReal.top_mul_coe_of_pos hp
    rw [hvar, EReal.top_add_of_ne_bot (ne_bot_of_gt hε), Ideal.rsqrt_top, mul_zero]

end Cert.Moe

end
-- ==== Proof.Agree.lean ====
/-
  The kernel's answer is the reference's result, where both biases are zero. If the gate weights are finite, the sum over
  the experts of the gated sums over the tokens is the sum over the tokens of the gated mixtures, and the two ways of dividing
  by the standard deviation agree. If they are infinite, both layer norms are zero.
-/
module

public import proofs.«01_k».proof.Proof.KernelValue
public import proofs.«01_k».proof.Proof.RefValue
public import proofs.«01_k».proof.Proof.Degenerate

@[expose] public section

set_option maxRecDepth 16384

noncomputable section

namespace Cert.Moe

open Idealize.ShloMosaic Idealize.ShloMosaic.TcCoe Idealize.SL.Sem

/-- With finite gate weights, the reference's sum over the tokens is the kernel's sum over the experts. -/
theorem pooled_eq (x0 : Vec Ideal Cert.ReferenceIdeal.S1x2048x768 .f32) (x6 : Vec Ideal Cert.ReferenceIdeal.S8x768x768 .f32)
    (x7 : Vec Ideal Cert.ReferenceIdeal.S8x768 .f32) (x8 : Vec Ideal Cert.ReferenceIdeal.S8x768x768 .f32)
    (x9 : Vec Ideal Cert.ReferenceIdeal.S8x768 .f32) (a : Fin 8 → EReal) (h7 : ∀ j, x7 j = (0 : EReal)) (h9 : ∀ j, x9 j = (0 : EReal))
    (ha : ∀ e, 0 ≤ gate a e ∧ gate a e ≠ ⊤) (o : Fin 768) :
    ∑ n, mixture x0 x6 x7 x8 x9 a n o = ∑ e, gate a e * expertSum (fun n d => x0 (ix3 0 n d)) (fun d k => x6 (ix3 e d k)) (fun k o => x8 (ix3 e k o)) o := by
  rw [mixture_eq (gate a) ha (fun n d => x0 (ix3 0 n d)) (fun e d k => x6 (ix3 e d k)) (fun e k o => x8 (ix3 e k o)) o]
  refine Finset.sum_congr rfl fun n _ => Finset.sum_congr rfl fun e _ => ?_
  rw [h9, add_zero]
  refine congrArg _ (Finset.sum_congr rfl fun k _ => ?_)
  rw [h7, add_zero]
  exact congrArg (fun s => max s 0 * _) (Finset.sum_congr rfl fun d _ => mul_comm _ _)

/-- Whatever the gate weights, the reference's layer norm of its pooled row is the kernel's of its own. -/
theorem normalised_eq (x0 : Vec Ideal Cert.ReferenceIdeal.S1x2048x768 .f32) (x6 : Vec Ideal Cert.ReferenceIdeal.S8x768x768 .f32)
    (x7 : Vec Ideal Cert.ReferenceIdeal.S8x768 .f32) (x8 : Vec Ideal Cert.ReferenceIdeal.S8x768x768 .f32)
    (x9 : Vec Ideal Cert.ReferenceIdeal.S8x768 .f32) (a : Fin 8 → EReal) (h7 : ∀ j, x7 j = (0 : EReal)) (h9 : ∀ j, x9 j = (0 : EReal))
    (u v : Fin 768 → EReal) (hu : ∀ o, u o = ∑ n, mixture x0 x6 x7 x8 x9 a n o)
    (hv : ∀ o, v o = ∑ e, gate a e * expertSum (fun n d => x0 (ix3 0 n d)) (fun d k => x6 (ix3 e d k)) (fun k o => x8 (ix3 e k o)) o)
    (o : Fin 768) :
    Ideal.div (u o - mean u) (Ideal.sqrt (variance u + epsilon)) = (v o - mean v) * Ideal.rsqrt (variance v + epsilon) := by
  rw [← normalise_eq u epsilon epsilon_pos o]
  rcases gate_cases a with ha | ha
  · obtain rfl : u = v := funext fun o => by rw [hu, hv, pooled_eq x0 x6 x7 x8 x9 a h7 h9 ha o]
    rfl
  · rw [normalise_extreme u (fun o => ?_) epsilon epsilon_pos o, normalise_extreme v (fun o => ?_) epsilon epsilon_pos o]
    · rw [hv]
      exact extreme_sum _ _ fun e => by rw [ha]; exact extreme_bot_mul _
    · rw [hu]
      exact extreme_sum _ _ fun n => extreme_sum _ _ fun e => by rw [ha]; exact extreme_bot_mul _

open Cert.KernelIdeal in
/-- The reference's result, over the kernel's arguments, is the kernel's. -/
theorem reference_eq (m : (ℓ : Loc nD τ sig) → Buf (Elt Ideal) ℓ) (c : Dev nD) (r : Fin 2)
    (hr : ∀ j, m ((c : Thread nD τ).loc main_arg1) j = BitVec.ofNat 32 r.val)
    (h7 : ∀ j, m ((c : Thread nD τ).loc main_arg7) j = (0 : EReal)) (h9 : ∀ j, m ((c : Thread nD τ).loc main_arg9) j = (0 : EReal)) :
    Cert.Moe.Ref.val_main_v90 (F := Ideal) (m ((c : Thread nD τ).loc main_arg0)) (m ((c : Thread nD τ).loc main_arg1)) (m ((c : Thread nD τ).loc main_arg3))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13))
      = result m c r := by
  funext j
  obtain rfl : j = ix2 0 0 := funext fun a => by fin_cases a <;> exact Subsingleton.elim (α := Fin 1) _ _
  refine (scored _ _ _ _ _ _ _ _ _ _ _ _ fun o => pooled _ _ _ _ _ _ _ r hr o).trans ?_
  show _ = answer m c r
  unfold answer
  exact congrArg (fun z => score z _ _ _ _) (funext fun o =>
    normalised_eq _ _ _ _ _ (argA m c r) h7 h9 _ (total m c r) (fun _ => rfl) (fun _ => rfl) o)

end Cert.Moe

end
-- ==== Proof.RefRun.lean ====
/-
  The reference's run: its operations, in nine stretches, and what each stretch leaves in the buffers read after it. Together
  they give the value the run leaves in the result array; no operation writes an argument.
-/
module

public import proofs.«01_k».proof.Proof.RefStages
public import Idealize.ShloMosaic.Lib.StableHlo.Run
public import Idealize.ShloMosaic.Lib.StableHlo.RunRead
public import Idealize.ShloMosaic.Lib.Pipeline.Frame

@[expose] public section

set_option maxRecDepth 16384

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- The two mixtures joined along the task axis, as a function of its operands. -/
def fn_main_v51 : (⟨S1x2048x768, .f32⟩ : BufTy).Contents (Elt F) → (⟨S1x2048x768, .f32⟩ : BufTy).Contents (Elt F) → (⟨S2x2048x768, .f32⟩ : BufTy).Contents (Elt F) :=
  (fun a b => concatenate S2x2048x768 0 [⟨S1x2048x768, a⟩, ⟨S1x2048x768, b⟩] concatenates_S1x2048x768_S1x2048x768_S2x2048x768_d0)

/-- Stretch 1, up to `main_v24`. -/
abbrev ops1 : List (HloOp τ sig (Elt F)) :=
  [ reshape main_arg0 main_v0 (rfl : (.f32 : EltTy) = .f32) shapeCasts_S1x2048x768_S2048x768,
    unary main_arg3 main_v1 ((extractStridedSlice S1x8 ![0, 0] · slices_S2x8_S1x8_0_0) : (⟨S2x8, .f32⟩ : BufTy).Contents (Elt F) → (⟨S1x8, .f32⟩ : BufTy).Contents (Elt F)),
    reshape main_v1 main_v2 (rfl : (.f32 : EltTy) = .f32) shapeCasts_S1x8_S8,
    nullary main_cst (constant S_ .f32 0xFF800000#32),
    binary main_v2 main_cst main_v3 ((fun x v => Host.reduce FloatOps.maximumf x v reducesTo_S8_S_d0 h_S_) : (⟨S8, .f32⟩ : BufTy).Contents (Elt F) → (⟨S_, .f32⟩ : BufTy).Contents (Elt F) → (⟨S_, .f32⟩ : BufTy).Contents (Elt F)),
    nullary main_cst_0 (constant S_ .f32 0xFF800000#32),
    binary main_cst_0 main_v3 main_v4 (maximumf : (⟨S_, .f32⟩ : BufTy).Contents (Elt F) → (⟨S_, .f32⟩ : BufTy).Contents (Elt F) → (⟨S_, .f32⟩ : BufTy).Contents (Elt F)),
    unary main_v4 main_v5 (broadcastInDim S1 ![] bcast_S_S1 : (⟨S_, .f32⟩ : BufTy).Contents (Elt F) → (⟨S1, .f32⟩ : BufTy).Contents (Elt F)),
    unary main_v5 main_v6 (broadcastInDim S8 ![0] bcast_S1_S8_0 : (⟨S1, .f32⟩ : BufTy).Contents (Elt F) → (⟨S8, .f32⟩ : BufTy).Contents (Elt F)),
    binary main_v2 main_v6 main_v7 (subf : (⟨S8, .f32⟩ : BufTy).Contents (Elt F) → (⟨S8, .f32⟩ : BufTy).Contents (Elt F) → (⟨S8, .f32⟩ : BufTy).Contents (Elt F)),
    unary main_v7 main_v8 (Host.exp : (⟨S8, .f32⟩ : BufTy).Contents (Elt F) → (⟨S8, .f32⟩ : BufTy).Contents (Elt F)),
    nullary main_cst_1 (constant S_ .f32 0x00000000#32),
    binary main_v8 main_cst_1 main_v9 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v9 main_v10 (broadcastInDim S1 ![] bcast_S_S1 : (⟨S_, .f32⟩ : BufTy).Contents (Elt F) → (⟨S1, .f32⟩ : BufTy).Contents (Elt F)),
    unary main_v10 main_v11 (broadcastInDim S8 ![0] bcast_S1_S8_0 : (⟨S1, .f32⟩ : BufTy).Contents (Elt F) → (⟨S8, .f32⟩ : BufTy).Contents (Elt F)),
    binary main_v8 main_v11 main_v12 (Host.divf : (⟨S8, .f32⟩ : BufTy).Contents (Elt F) → (⟨S8, .f32⟩ : BufTy).Contents (Elt F) → (⟨S8, .f32⟩ : BufTy).Contents (Elt F)),
    binary main_arg6 main_v0 main_v13 ((fun l r => Host.dotGeneral dot_S8x768x768_S2048x768_S8x768x2048_1_1_02_0_n_n none l r) : (⟨S8x768x768, .f32⟩ : BufTy).Contents (Elt F) → (⟨S2048x768, .f32⟩ : BufTy).Contents (Elt F) → (⟨S8x768x2048, .f32⟩ : BufTy).Contents (Elt F)),
    unary main_v13 main_v14 ((transpose S8x2048x768 [0, 2, 1] · transposes_S8x768x2048_S8x2048x768_0_2_1) : (⟨S8x768x2048, .f32⟩ : BufTy).Contents (Elt F) → (⟨S8x2048x768, .f32⟩ : BufTy).Contents (Elt F)),
    unary main_arg7 main_v15 (broadcastInDim S8x1x768 ![0, 2] bcast_S8x768_S8x1x768_0_2 : (⟨S8x768, .f32⟩ : BufTy).Contents (Elt F) → (⟨S8x1x768, .f32⟩ : BufTy).Contents (Elt F)),
    unary main_v15 main_v16 (broadcastInDim S8x2048x768 ![0, 1, 2] bcast_S8x1x768_S8x2048x768_0_1_2 : (⟨S8x1x768, .f32⟩ : BufTy).Contents (Elt F) → (⟨S8x2048x768, .f32⟩ : BufTy).Contents (Elt F)),
    binary main_v14 main_v16 main_v17 (addf : (⟨S8x2048x768, .f32⟩ : BufTy).Contents (Elt F) → (⟨S8x2048x768, .f32⟩ : BufTy).Contents (Elt F) → (⟨S8x2048x768, .f32⟩ : BufTy).Contents (Elt F)),
    nullary main_cst_2 (constant S_ .f32 0x00000000#32),
    unary main_cst_2 main_v18 (broadcastInDim S8x2048x768 ![] bcast_S_S8x2048x768 : (⟨S_, .f32⟩ : BufTy).Contents (Elt F) → (⟨S8x2048x768, .f32⟩ : BufTy).Contents (Elt F)),
    binary main_v17 main_v18 main_v19 (maximumf : (⟨S8x2048x768, .f32⟩ : BufTy).Contents (Elt F) → (⟨S8x2048x768, .f32⟩ : BufTy).Contents (Elt F) → (⟨S8x2048x768, .f32⟩ : BufTy).Contents (Elt F)),
    binary main_v19 main_arg8 main_v20 ((fun l r => Host.dotGeneral dot_S8x2048x768_S8x768x768_S8x2048x768_2_1_1_2_0_0 none l r) : (⟨S8x2048x768, .f32⟩ : BufTy).Contents (Elt F) → (⟨S8x768x768, .f32⟩ : BufTy).Contents (Elt F) → (⟨S8x2048x768, .f32⟩ : BufTy).Contents (Elt F)),
    unary main_arg9 main_v21 (broadcastInDim S8x1x768 ![0, 2] bcast_S8x768_S8x1x768_0_2 : (⟨S8x768, .f32⟩ : BufTy).Contents (Elt F) → (⟨S8x1x768, .f32⟩ : BufTy).Contents (Elt F)),
    unary main_v21 main_v22 (broadcastInDim S8x2048x768 ![0, 1, 2] bcast_S8x1x768_S8x2048x768_0_1_2 : (⟨S8x1x768, .f32⟩ : BufTy).Contents (Elt F) → (⟨S8x2048x768, .f32⟩ : BufTy).Contents (Elt F)),
    binary main_v20 main_v22 main_v23 (addf : (⟨S8x2048x768, .f32⟩ : BufTy).Contents (Elt F) → (⟨S8x2048x768, .f32⟩ : BufTy).Contents (Elt F) → (⟨S8x2048x768, .f32⟩ : BufTy).Contents (Elt F)),
    binary main_v12 main_v23 main_v24 ((fun l r => Host.dotGeneral dot_S8_S8x2048x768_S2048x768_0_0_n_12_n_n none l r) : (⟨S8, .f32⟩ : BufTy).Contents (Elt F) → (⟨S8x2048x768, .f32⟩ : BufTy).Contents (Elt F) → (⟨S2048x768, .f32⟩ : BufTy).Contents (Elt F)) ]

/-- What stretch 1 writes. -/
abbrev writes1 : List (Ref sig .tc) := [main_v0, main_v1, main_v2, main_cst, main_v3, main_cst_0, main_v4, main_v5, main_v6, main_v7, main_v8, main_cst_1, main_v9, main_v10, main_v11, main_v12, main_v13, main_v14, main_v15, main_v16, main_v17, main_cst_2, main_v18, main_v19, main_v20, main_v21, main_v22, main_v23, main_v24]

/-- Stretch 1 touches core buffers only. -/
theorem bufs1 : (ops1 : List (HloOp τ sig (Elt F))).Forall fun op => op.bufs ⊆ tcRefs τ sig :=
  ⟨reshape_bufs_sub .., unary_bufs_sub .., reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

/-- Stretch 1 allocates nothing. -/
theorem fresh1 : ∀ op ∈ (ops1 : List (HloOp τ sig (Elt F))), op.fresh = ∅ := by
  intro _ h
  (repeat (cases h with | head => rfl | tail _ h => ?_))
  exact nomatch h

/-- A buffer that stretch 1 does not write keeps its contents. -/
theorem keep1 (W : Valuation τ sig (Elt F)) (r : Ref sig .tc) (hr : r ∉ writes1) :
    after ops1 W (Proc.devRef .tc r) = W (Proc.devRef .tc r) :=
  after_of_writes_sub ops1 W (forall_writes_sub_of_map (W := writes1) rfl) hr

/-- Stretch 2, up to `main_v48`. -/
abbrev ops2 : List (HloOp τ sig (Elt F)) :=
  [ unary main_arg3 main_v25 ((extractStridedSlice S1x8 ![1, 0] · slices_S2x8_S1x8_1_0) : (⟨S2x8, .f32⟩ : BufTy).Contents (Elt F) → (⟨S1x8, .f32⟩ : BufTy).Contents (Elt F)),
    reshape main_v25 main_v26 (rfl : (.f32 : EltTy) = .f32) shapeCasts_S1x8_S8,
    nullary main_cst_3 (constant S_ .f32 0xFF800000#32),
    binary main_v26 main_cst_3 main_v27 ((fun x v => Host.reduce FloatOps.maximumf x v reducesTo_S8_S_d0 h_S_) : (⟨S8, .f32⟩ : BufTy).Contents (Elt F) → (⟨S_, .f32⟩ : BufTy).Contents (Elt F) → (⟨S_, .f32⟩ : BufTy).Contents (Elt F)),
    nullary main_cst_4 (constant S_ .f32 0xFF800000#32),
    binary main_cst_4 main_v27 main_v28 (maximumf : (⟨S_, .f32⟩ : BufTy).Contents (Elt F) → (⟨S_, .f32⟩ : BufTy).Contents (Elt F) → (⟨S_, .f32⟩ : BufTy).Contents (Elt F)),
    unary main_v28 main_v29 (broadcastInDim S1 ![] bcast_S_S1 : (⟨S_, .f32⟩ : BufTy).Contents (Elt F) → (⟨S1, .f32⟩ : BufTy).Contents (Elt F)),
    unary main_v29 main_v30 (broadcastInDim S8 ![0] bcast_S1_S8_0 : (⟨S1, .f32⟩ : BufTy).Contents (Elt F) → (⟨S8, .f32⟩ : BufTy).Contents (Elt F)),
    binary main_v26 main_v30 main_v31 (subf : (⟨S8, .f32⟩ : BufTy).Contents (Elt F) → (⟨S8, .f32⟩ : BufTy).Contents (Elt F) → (⟨S8, .f32⟩ : BufTy).Contents (Elt F)),
    unary main_v31 main_v32 (Host.exp : (⟨S8, .f32⟩ : BufTy).Contents (Elt F) → (⟨S8, .f32⟩ : BufTy).Contents (Elt F)),
    nullary main_cst_5 (constant S_ .f32 0x00000000#32),
    binary main_v32 main_cst_5 main_v33 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v33 main_v34 (broadcastInDim S1 ![] bcast_S_S1 : (⟨S_, .f32⟩ : BufTy).Contents (Elt F) → (⟨S1, .f32⟩ : BufTy).Contents (Elt F)),
    unary main_v34 main_v35 (broadcastInDim S8 ![0] bcast_S1_S8_0 : (⟨S1, .f32⟩ : BufTy).Contents (Elt F) → (⟨S8, .f32⟩ : BufTy).Contents (Elt F)),
    binary main_v32 main_v35 main_v36 (Host.divf : (⟨S8, .f32⟩ : BufTy).Contents (Elt F) → (⟨S8, .f32⟩ : BufTy).Contents (Elt F) → (⟨S8, .f32⟩ : BufTy).Contents (Elt F)),
    binary main_arg6 main_v0 main_v37 ((fun l r => Host.dotGeneral dot_S8x768x768_S2048x768_S8x768x2048_1_1_02_0_n_n none l r) : (⟨S8x768x768, .f32⟩ : BufTy).Contents (Elt F) → (⟨S2048x768, .f32⟩ : BufTy).Contents (Elt F) → (⟨S8x768x2048, .f32⟩ : BufTy).Contents (Elt F)),
    unary main_v37 main_v38 ((transpose S8x2048x768 [0, 2, 1] · transposes_S8x768x2048_S8x2048x768_0_2_1) : (⟨S8x768x2048, .f32⟩ : BufTy).Contents (Elt F) → (⟨S8x2048x768, .f32⟩ : BufTy).Contents (Elt F)),
    unary main_arg7 main_v39 (broadcastInDim S8x1x768 ![0, 2] bcast_S8x768_S8x1x768_0_2 : (⟨S8x768, .f32⟩ : BufTy).Contents (Elt F) → (⟨S8x1x768, .f32⟩ : BufTy).Contents (Elt F)),
    unary main_v39 main_v40 (broadcastInDim S8x2048x768 ![0, 1, 2] bcast_S8x1x768_S8x2048x768_0_1_2 : (⟨S8x1x768, .f32⟩ : BufTy).Contents (Elt F) → (⟨S8x2048x768, .f32⟩ : BufTy).Contents (Elt F)),
    binary main_v38 main_v40 main_v41 (addf : (⟨S8x2048x768, .f32⟩ : BufTy).Contents (Elt F) → (⟨S8x2048x768, .f32⟩ : BufTy).Contents (Elt F) → (⟨S8x2048x768, .f32⟩ : BufTy).Contents (Elt F)),
    nullary main_cst_6 (constant S_ .f32 0x00000000#32),
    unary main_cst_6 main_v42 (broadcastInDim S8x2048x768 ![] bcast_S_S8x2048x768 : (⟨S_, .f32⟩ : BufTy).Contents (Elt F) → (⟨S8x2048x768, .f32⟩ : BufTy).Contents (Elt F)),
    binary main_v41 main_v42 main_v43 (maximumf : (⟨S8x2048x768, .f32⟩ : BufTy).Contents (Elt F) → (⟨S8x2048x768, .f32⟩ : BufTy).Contents (Elt F) → (⟨S8x2048x768, .f32⟩ : BufTy).Contents (Elt F)),
    binary main_v43 main_arg8 main_v44 ((fun l r => Host.dotGeneral dot_S8x2048x768_S8x768x768_S8x2048x768_2_1_1_2_0_0 none l r) : (⟨S8x2048x768, .f32⟩ : BufTy).Contents (Elt F) → (⟨S8x768x768, .f32⟩ : BufTy).Contents (Elt F) → (⟨S8x2048x768, .f32⟩ : BufTy).Contents (Elt F)),
    unary main_arg9 main_v45 (broadcastInDim S8x1x768 ![0, 2] bcast_S8x768_S8x1x768_0_2 : (⟨S8x768, .f32⟩ : BufTy).Contents (Elt F) → (⟨S8x1x768, .f32⟩ : BufTy).Contents (Elt F)),
    unary main_v45 main_v46 (broadcastInDim S8x2048x768 ![0, 1, 2] bcast_S8x1x768_S8x2048x768_0_1_2 : (⟨S8x1x768, .f32⟩ : BufTy).Contents (Elt F) → (⟨S8x2048x768, .f32⟩ : BufTy).Contents (Elt F)),
    binary main_v44 main_v46 main_v47 (addf : (⟨S8x2048x768, .f32⟩ : BufTy).Contents (Elt F) → (⟨S8x2048x768, .f32⟩ : BufTy).Contents (Elt F) → (⟨S8x2048x768, .f32⟩ : BufTy).Contents (Elt F)),
    binary main_v36 main_v47 main_v48 ((fun l r => Host.dotGeneral dot_S8_S8x2048x768_S2048x768_0_0_n_12_n_n none l r) : (⟨S8, .f32⟩ : BufTy).Contents (Elt F) → (⟨S8x2048x768, .f32⟩ : BufTy).Contents (Elt F) → (⟨S2048x768, .f32⟩ : BufTy).Contents (Elt F)) ]

/-- What stretch 2 writes. -/
abbrev writes2 : List (Ref sig .tc) := [main_v25, main_v26, main_cst_3, main_v27, main_cst_4, main_v28, main_v29, main_v30, main_v31, main_v32, main_cst_5, main_v33, main_v34, main_v35, main_v36, main_v37, main_v38, main_v39, main_v40, main_v41, main_cst_6, main_v42, main_v43, main_v44, main_v45, main_v46, main_v47, main_v48]

/-- Stretch 2 touches core buffers only. -/
theorem bufs2 : (ops2 : List (HloOp τ sig (Elt F))).Forall fun op => op.bufs ⊆ tcRefs τ sig :=
  ⟨unary_bufs_sub .., reshape_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

/-- Stretch 2 allocates nothing. -/
theorem fresh2 : ∀ op ∈ (ops2 : List (HloOp τ sig (Elt F))), op.fresh = ∅ := by
  intro _ h
  (repeat (cases h with | head => rfl | tail _ h => ?_))
  exact nomatch h

/-- A buffer that stretch 2 does not write keeps its contents. -/
theorem keep2 (W : Valuation τ sig (Elt F)) (r : Ref sig .tc) (hr : r ∉ writes2) :
    after ops2 W (Proc.devRef .tc r) = W (Proc.devRef .tc r) :=
  after_of_writes_sub ops2 W (forall_writes_sub_of_map (W := writes2) rfl) hr

/-- Stretch 3, up to `main_v51`. -/
abbrev ops3 : List (HloOp τ sig (Elt F)) :=
  [ unary main_v24 main_v49 (broadcastInDim S1x2048x768 ![1, 2] bcast_S2048x768_S1x2048x768_1_2 : (⟨S2048x768, .f32⟩ : BufTy).Contents (Elt F) → (⟨S1x2048x768, .f32⟩ : BufTy).Contents (Elt F)),
    unary main_v48 main_v50 (broadcastInDim S1x2048x768 ![1, 2] bcast_S2048x768_S1x2048x768_1_2 : (⟨S2048x768, .f32⟩ : BufTy).Contents (Elt F) → (⟨S1x2048x768, .f32⟩ : BufTy).Contents (Elt F)),
    binary main_v49 main_v50 main_v51 (fn_main_v51 (F := F)) ]

/-- What stretch 3 writes. -/
abbrev writes3 : List (Ref sig .tc) := [main_v49, main_v50, main_v51]

/-- Stretch 3 touches core buffers only. -/
theorem bufs3 : (ops3 : List (HloOp τ sig (Elt F))).Forall fun op => op.bufs ⊆ tcRefs τ sig :=
  ⟨unary_bufs_sub .., unary_bufs_sub .., binary_bufs_sub ..⟩

/-- Stretch 3 allocates nothing. -/
theorem fresh3 : ∀ op ∈ (ops3 : List (HloOp τ sig (Elt F))), op.fresh = ∅ := by
  intro _ h
  (repeat (cases h with | head => rfl | tail _ h => ?_))
  exact nomatch h

/-- A buffer that stretch 3 does not write keeps its contents. -/
theorem keep3 (W : Valuation τ sig (Elt F)) (r : Ref sig .tc) (hr : r ∉ writes3) :
    after ops3 W (Proc.devRef .tc r) = W (Proc.devRef .tc r) :=
  after_of_writes_sub ops3 W (forall_writes_sub_of_map (W := writes3) rfl) hr

/-- Stretch 4, up to `main_v61`. -/
abbrev ops4 : List (HloOp τ sig (Elt F)) :=
  [ reshape main_arg1 main_v52 (rfl : (.i32 : EltTy) = .i32) shapeCasts_S1_S_,
    nullary main_c (constantI S_ 32 0#32),
    binary main_v52 main_c main_v53 (cmpi .slt : (⟨S_, .i32⟩ : BufTy).Contents (Elt F) → (⟨S_, .i32⟩ : BufTy).Contents (Elt F) → (⟨S_, .i1⟩ : BufTy).Contents (Elt F)),
    nullary main_c_7 (constantI S_ 32 2#32),
    binary main_v52 main_c_7 main_v54 (addi : (⟨S_, .i32⟩ : BufTy).Contents (Elt F) → (⟨S_, .i32⟩ : BufTy).Contents (Elt F) → (⟨S_, .i32⟩ : BufTy).Contents (Elt F)),
    ternary main_v53 main_v54 main_v52 main_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_8 (constantI S_ 32 0#32),
    nullary main_c_9 (constantI S_ 32 0#32),
    binary main_c_8 main_c_9 main_v56 (cmpi .slt : (⟨S_, .i32⟩ : BufTy).Contents (Elt F) → (⟨S_, .i32⟩ : BufTy).Contents (Elt F) → (⟨S_, .i1⟩ : BufTy).Contents (Elt F)),
    nullary main_c_10 (constantI S_ 32 0#32),
    nullary main_c_11 (constantI S_ 32 2048#32),
    binary main_c_10 main_c_11 main_v57 (addi : (⟨S_, .i32⟩ : BufTy).Contents (Elt F) → (⟨S_, .i32⟩ : BufTy).Contents (Elt F) → (⟨S_, .i32⟩ : BufTy).Contents (Elt F)),
    nullary main_c_12 (constantI S_ 32 0#32),
    ternary main_v56 main_v57 main_c_12 main_v58 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_13 (constantI S_ 32 0#32),
    nullary main_c_14 (constantI S_ 32 0#32),
    binary main_c_13 main_c_14 main_v59 (cmpi .slt : (⟨S_, .i32⟩ : BufTy).Contents (Elt F) → (⟨S_, .i32⟩ : BufTy).Contents (Elt F) → (⟨S_, .i1⟩ : BufTy).Contents (Elt F)),
    nullary main_c_15 (constantI S_ 32 0#32),
    nullary main_c_16 (constantI S_ 32 768#32),
    binary main_c_15 main_c_16 main_v60 (addi : (⟨S_, .i32⟩ : BufTy).Contents (Elt F) → (⟨S_, .i32⟩ : BufTy).Contents (Elt F) → (⟨S_, .i32⟩ : BufTy).Contents (Elt F)),
    nullary main_c_17 (constantI S_ 32 0#32),
    ternary main_v59 main_v60 main_c_17 main_v61 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- What stretch 4 writes. -/
abbrev writes4 : List (Ref sig .tc) := [main_v52, main_c, main_v53, main_c_7, main_v54, main_v55, main_c_8, main_c_9, main_v56, main_c_10, main_c_11, main_v57, main_c_12, main_v58, main_c_13, main_c_14, main_v59, main_c_15, main_c_16, main_v60, main_c_17, main_v61]

/-- Stretch 4 touches core buffers only. -/
theorem bufs4 : (ops4 : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩

/-- Stretch 4 allocates nothing. -/
theorem fresh4 : ∀ op ∈ (ops4 : List (HloOp τ sig (Elt F))), op.fresh = ∅ := by
  intro _ h
  (repeat (cases h with | head => rfl | tail _ h => ?_))
  exact nomatch h

/-- A buffer that stretch 4 does not write keeps its contents. -/
theorem keep4 (W : Valuation τ sig (Elt F)) (r : Ref sig .tc) (hr : r ∉ writes4) :
    after ops4 W (Proc.devRef .tc r) = W (Proc.devRef .tc r) :=
  after_of_writes_sub ops4 W (forall_writes_sub_of_map (W := writes4) rfl) hr

/-- Stretch 5, up to `main_v62`. -/
abbrev ops5 : List (HloOp τ sig (Elt F)) :=
  [ unaryIndexed main_v51 ![main_v55, main_v58, main_v61] ⟨S_, .i32⟩ main_v62 ((fun x i => Host.dynamicSlice S1x2048x768 x (fun k => (i k (Shape.Idx.first h_S_)).toInt) sliceFits_S2x2048x768_S1x2048x768) : (⟨S2x2048x768, .f32⟩ : BufTy).Contents (Elt F) → (Fin 3 → (⟨S_, .i32⟩ : BufTy).Contents (Elt F)) → (⟨S1x2048x768, .f32⟩ : BufTy).Contents (Elt F)) ]

/-- What stretch 5 writes. -/
abbrev writes5 : List (Ref sig .tc) := [main_v62]

/-- Stretch 5 touches core buffers only. -/
theorem bufs5 : (ops5 : List (HloOp τ sig (Elt F))).Forall fun op => op.bufs ⊆ tcRefs τ sig :=
  unaryIndexed_bufs_sub ..

/-- Stretch 5 allocates nothing. -/
theorem fresh5 : ∀ op ∈ (ops5 : List (HloOp τ sig (Elt F))), op.fresh = ∅ := by
  intro _ h
  (repeat (cases h with | head => rfl | tail _ h => ?_))
  exact nomatch h

/-- A buffer that stretch 5 does not write keeps its contents. -/
theorem keep5 (W : Valuation τ sig (Elt F)) (r : Ref sig .tc) (hr : r ∉ writes5) :
    after ops5 W (Proc.devRef .tc r) = W (Proc.devRef .tc r) :=
  after_of_writes_sub ops5 W (forall_writes_sub_of_map (W := writes5) rfl) hr

/-- Stretch 6, up to `main_v65`. -/
abbrev ops6 : List (HloOp τ sig (Elt F)) :=
  [ reshape main_v62 main_v63 (rfl : (.f32 : EltTy) = .f32) shapeCasts_S1x2048x768_S2048x768,
    reshape main_v63 main_v64 (rfl : (.f32 : EltTy) = .f32) shapeCasts_S2048x768_S1x2048x768,
    nullary main_cst_18 (constant S_ .f32 0x00000000#32),
    binary main_v64 main_cst_18 main_v65 ((fun x v => Host.reduceAdd x v reducesTo_S1x2048x768_S1x768_d1 h_S_) : (⟨S1x2048x768, .f32⟩ : BufTy).Contents (Elt F) → (⟨S_, .f32⟩ : BufTy).Contents (Elt F) → (⟨S1x768, .f32⟩ : BufTy).Contents (Elt F)) ]

/-- What stretch 6 writes. -/
abbrev writes6 : List (Ref sig .tc) := [main_v63, main_v64, main_cst_18, main_v65]

/-- Stretch 6 touches core buffers only. -/
theorem bufs6 : (ops6 : List (HloOp τ sig (Elt F))).Forall fun op => op.bufs ⊆ tcRefs τ sig :=
  ⟨reshape_bufs_sub .., reshape_bufs_sub .., nullary_bufs_sub .., binary_bufs_sub ..⟩

/-- Stretch 6 allocates nothing. -/
theorem fresh6 : ∀ op ∈ (ops6 : List (HloOp τ sig (Elt F))), op.fresh = ∅ := by
  intro _ h
  (repeat (cases h with | head => rfl | tail _ h => ?_))
  exact nomatch h

/-- A buffer that stretch 6 does not write keeps its contents. -/
theorem keep6 (W : Valuation τ sig (Elt F)) (r : Ref sig .tc) (hr : r ∉ writes6) :
    after ops6 W (Proc.devRef .tc r) = W (Proc.devRef .tc r) :=
  after_of_writes_sub ops6 W (forall_writes_sub_of_map (W := writes6) rfl) hr

/-- Stretch 7, up to `main_c_21`. -/
abbrev ops7 : List (HloOp τ sig (Elt F)) :=
  [ nullary main_cst_19 (constant S_ .f32 0x00000000#32),
    binary main_v65 main_cst_19 main_v66 ((fun x v => Host.reduceAdd x v reducesTo_S1x768_S1_d1 h_S_) : (⟨S1x768, .f32⟩ : BufTy).Contents (Elt F) → (⟨S_, .f32⟩ : BufTy).Contents (Elt F) → (⟨S1, .f32⟩ : BufTy).Contents (Elt F)),
    unary main_v66 main_v67 (broadcastInDim S1x1 ![0] bcast_S1_S1x1_0 : (⟨S1, .f32⟩ : BufTy).Contents (Elt F) → (⟨S1x1, .f32⟩ : BufTy).Contents (Elt F)),
    nullary main_cst_20 (constant S_ .f32 0x44400000#32),
    unary main_cst_20 main_v68 (broadcastInDim S1x1 ![] bcast_S_S1x1 : (⟨S_, .f32⟩ : BufTy).Contents (Elt F) → (⟨S1x1, .f32⟩ : BufTy).Contents (Elt F)),
    binary main_v67 main_v68 main_v69 (Host.divf : (⟨S1x1, .f32⟩ : BufTy).Contents (Elt F) → (⟨S1x1, .f32⟩ : BufTy).Contents (Elt F) → (⟨S1x1, .f32⟩ : BufTy).Contents (Elt F)),
    nullary main_c_21 (constantI S_ 32 0#32) ]

/-- What stretch 7 writes. -/
abbrev writes7 : List (Ref sig .tc) := [main_cst_19, main_v66, main_v67, main_cst_20, main_v68, main_v69, main_c_21]

/-- Stretch 7 touches core buffers only. -/
theorem bufs7 : (ops7 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩

/-- Stretch 7 allocates nothing. -/
theorem fresh7 : ∀ op ∈ (ops7 : List (HloOp τ sig (Elt F))), op.fresh = ∅ := by
  intro _ h
  (repeat (cases h with | head => rfl | tail _ h => ?_))
  exact nomatch h

/-- A buffer that stretch 7 does not write keeps its contents. -/
theorem keep7 (W : Valuation τ sig (Elt F)) (r : Ref sig .tc) (hr : r ∉ writes7) :
    after ops7 W (Proc.devRef .tc r) = W (Proc.devRef .tc r) :=
  after_of_writes_sub ops7 W (forall_writes_sub_of_map (W := writes7) rfl) hr

/-- Stretch 8, up to `main_v70`. -/
abbrev ops8 : List (HloOp τ sig (Elt F)) :=
  [ TRef.nullary (TRef.of (T := ⟨S_, .f32⟩) main_call0_cst) (constant S_ .f32 0x00000000#32),
    TRef.binary (TRef.of (T := ⟨S1x768, .f32⟩) main_v65) (TRef.of (T := ⟨S_, .f32⟩) main_call0_cst) (TRef.of (T := ⟨S1, .f32⟩) main_call0_v0) (fun x v => Host.reduceAdd x v reducesTo_S1x768_S1_d1 h_S_),
    TRef.unary (TRef.of (T := ⟨S1, .f32⟩) main_call0_v0) (TRef.of (T := ⟨S1x1, .f32⟩) main_call0_v1) (broadcastInDim S1x1 ![0] bcast_S1_S1x1_0),
    TRef.nullary (TRef.of (T := ⟨S_, .f32⟩) main_call0_cst_0) (constant S_ .f32 0x44400000#32),
    TRef.unary (TRef.of (T := ⟨S_, .f32⟩) main_call0_cst_0) (TRef.of (T := ⟨S1x1, .f32⟩) main_call0_v2) (broadcastInDim S1x1 ![] bcast_S_S1x1),
    TRef.binary (TRef.of (T := ⟨S1x1, .f32⟩) main_call0_v1) (TRef.of (T := ⟨S1x1, .f32⟩) main_call0_v2) (TRef.of (T := ⟨S1x1, .f32⟩) main_call0_v3) Host.divf,
    TRef.unary (TRef.of (T := ⟨S1x1, .f32⟩) main_call0_v3) (TRef.of (T := ⟨S1x768, .f32⟩) main_call0_v4) (broadcastInDim S1x768 ![0, 1] bcast_S1x1_S1x768_0_1),
    TRef.binary (TRef.of (T := ⟨S1x768, .f32⟩) main_v65) (TRef.of (T := ⟨S1x768, .f32⟩) main_call0_v4) (TRef.of (T := ⟨S1x768, .f32⟩) main_call0_v5) subf,
    TRef.binary (TRef.of (T := ⟨S1x768, .f32⟩) main_call0_v5) (TRef.of (T := ⟨S1x768, .f32⟩) main_call0_v5) (TRef.of (T := ⟨S1x768, .f32⟩) main_call0_v6) mulf,
    TRef.unary (TRef.of (T := ⟨S_, .i32⟩) main_c_21) (TRef.of (T := ⟨S_, .f32⟩) main_call0_v7) (sitofp .f32),
    TRef.nullary (TRef.of (T := ⟨S_, .f32⟩) main_call0_cst_1) (constant S_ .f32 0x44400000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S1x768, .f32⟩) main_call0_v6) (TRef.of (T := ⟨S_, .f32⟩) main_call0_cst_2) (TRef.of (T := ⟨S1, .f32⟩) main_call0_v9) (fun x v => Host.reduceAdd x v reducesTo_S1x768_S1_d1 h_S_),
    TRef.unary (TRef.of (T := ⟨S1, .f32⟩) main_call0_v9) (TRef.of (T := ⟨S1x1, .f32⟩) main_call0_v10) (broadcastInDim S1x1 ![0] bcast_S1_S1x1_0),
    TRef.unary (TRef.of (T := ⟨S_, .f32⟩) main_call0_v8) (TRef.of (T := ⟨S1x1, .f32⟩) main_call0_v11) (broadcastInDim S1x1 ![] bcast_S_S1x1),
    TRef.binary (TRef.of (T := ⟨S1x1, .f32⟩) main_call0_v10) (TRef.of (T := ⟨S1x1, .f32⟩) main_call0_v11) (TRef.of (T := ⟨S1x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S1x1, .f32⟩) main_call0_call0_v1) (broadcastInDim S1x1 ![] bcast_S_S1x1),
    TRef.ternary (TRef.of (T := ⟨S_, .i1⟩) main_call0_v13) (TRef.of (T := ⟨S1x1, .f32⟩) main_call0_v12) (TRef.of (T := ⟨S1x1, .f32⟩) main_call0_call0_v1) (TRef.of (T := ⟨S1x1, .f32⟩) main_v70) (fun p a b => select (broadcastInDim S1x1 ![] bcast_S_S1x1 p) a b) ]

/-- What stretch 8 writes. -/
abbrev writes8 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v70]

/-- Stretch 8 touches core buffers only. -/
theorem bufs8 : (ops8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- Stretch 8 allocates nothing. -/
theorem fresh8 : ∀ op ∈ (ops8 : List (HloOp τ sig (Elt F))), op.fresh = ∅ := by
  intro _ h
  (repeat (cases h with | head => rfl | tail _ h => ?_))
  exact nomatch h

/-- A buffer that stretch 8 does not write keeps its contents. -/
theorem keep8 (W : Valuation τ sig (Elt F)) (r : Ref sig .tc) (hr : r ∉ writes8) :
    after ops8 W (Proc.devRef .tc r) = W (Proc.devRef .tc r) :=
  after_of_writes_sub ops8 W (forall_writes_sub_of_map (W := writes8) rfl) hr

/-- Stretch 9, up to `main_v90`. -/
abbrev ops9 : List (HloOp τ sig (Elt F)) :=
  [ unary main_v69 main_v71 (broadcastInDim S1x768 ![0, 1] bcast_S1x1_S1x768_0_1 : (⟨S1x1, .f32⟩ : BufTy).Contents (Elt F) → (⟨S1x768, .f32⟩ : BufTy).Contents (Elt F)),
    binary main_v65 main_v71 main_v72 (subf : (⟨S1x768, .f32⟩ : BufTy).Contents (Elt F) → (⟨S1x768, .f32⟩ : BufTy).Contents (Elt F) → (⟨S1x768, .f32⟩ : BufTy).Contents (Elt F)),
    nullary main_cst_22 (constant S_ .f32 0x3727C5AC#32),
    unary main_cst_22 main_v73 (broadcastInDim S1x1 ![] bcast_S_S1x1 : (⟨S_, .f32⟩ : BufTy).Contents (Elt F) → (⟨S1x1, .f32⟩ : BufTy).Contents (Elt F)),
    binary main_v70 main_v73 main_v74 (addf : (⟨S1x1, .f32⟩ : BufTy).Contents (Elt F) → (⟨S1x1, .f32⟩ : BufTy).Contents (Elt F) → (⟨S1x1, .f32⟩ : BufTy).Contents (Elt F)),
    unary main_v74 main_v75 (Host.sqrt : (⟨S1x1, .f32⟩ : BufTy).Contents (Elt F) → (⟨S1x1, .f32⟩ : BufTy).Contents (Elt F)),
    unary main_v75 main_v76 (broadcastInDim S1x768 ![0, 1] bcast_S1x1_S1x768_0_1 : (⟨S1x1, .f32⟩ : BufTy).Contents (Elt F) → (⟨S1x768, .f32⟩ : BufTy).Contents (Elt F)),
    binary main_v72 main_v76 main_v77 (Host.divf : (⟨S1x768, .f32⟩ : BufTy).Contents (Elt F) → (⟨S1x768, .f32⟩ : BufTy).Contents (Elt F) → (⟨S1x768, .f32⟩ : BufTy).Contents (Elt F)),
    unary main_arg10 main_v78 (broadcastInDim S1x768 ![1] bcast_S768_S1x768_1 : (⟨S768, .f32⟩ : BufTy).Contents (Elt F) → (⟨S1x768, .f32⟩ : BufTy).Contents (Elt F)),
    binary main_v77 main_v78 main_v79 (mulf : (⟨S1x768, .f32⟩ : BufTy).Contents (Elt F) → (⟨S1x768, .f32⟩ : BufTy).Contents (Elt F) → (⟨S1x768, .f32⟩ : BufTy).Contents (Elt F)),
    unary main_arg11 main_v80 (broadcastInDim S1x768 ![1] bcast_S768_S1x768_1 : (⟨S768, .f32⟩ : BufTy).Contents (Elt F) → (⟨S1x768, .f32⟩ : BufTy).Contents (Elt F)),
    binary main_v79 main_v80 main_v81 (addf : (⟨S1x768, .f32⟩ : BufTy).Contents (Elt F) → (⟨S1x768, .f32⟩ : BufTy).Contents (Elt F) → (⟨S1x768, .f32⟩ : BufTy).Contents (Elt F)),
    binary main_v81 main_arg12 main_v82 ((fun l r => Host.dotGeneral dot_S1x768_S768x1_S1x1_1_0_0_1_n_n none l r) : (⟨S1x768, .f32⟩ : BufTy).Contents (Elt F) → (⟨S768x1, .f32⟩ : BufTy).Contents (Elt F) → (⟨S1x1, .f32⟩ : BufTy).Contents (Elt F)),
    unary main_arg13 main_v83 (broadcastInDim S1x1 ![1] bcast_S1_S1x1_1 : (⟨S1, .f32⟩ : BufTy).Contents (Elt F) → (⟨S1x1, .f32⟩ : BufTy).Contents (Elt F)),
    binary main_v82 main_v83 main_v84 (addf : (⟨S1x1, .f32⟩ : BufTy).Contents (Elt F) → (⟨S1x1, .f32⟩ : BufTy).Contents (Elt F) → (⟨S1x1, .f32⟩ : BufTy).Contents (Elt F)),
    unary main_v84 main_v85 (Host.negf : (⟨S1x1, .f32⟩ : BufTy).Contents (Elt F) → (⟨S1x1, .f32⟩ : BufTy).Contents (Elt F)),
    unary main_v85 main_v86 (Host.exp : (⟨S1x1, .f32⟩ : BufTy).Contents (Elt F) → (⟨S1x1, .f32⟩ : BufTy).Contents (Elt F)),
    nullary main_cst_23 (constant S_ .f32 0x3F800000#32),
    unary main_cst_23 main_v87 (broadcastInDim S1x1 ![] bcast_S_S1x1 : (⟨S_, .f32⟩ : BufTy).Contents (Elt F) → (⟨S1x1, .f32⟩ : BufTy).Contents (Elt F)),
    binary main_v87 main_v86 main_v88 (addf : (⟨S1x1, .f32⟩ : BufTy).Contents (Elt F) → (⟨S1x1, .f32⟩ : BufTy).Contents (Elt F) → (⟨S1x1, .f32⟩ : BufTy).Contents (Elt F)),
    nullary main_cst_24 (constant S_ .f32 0x3F800000#32),
    unary main_cst_24 main_v89 (broadcastInDim S1x1 ![] bcast_S_S1x1 : (⟨S_, .f32⟩ : BufTy).Contents (Elt F) → (⟨S1x1, .f32⟩ : BufTy).Contents (Elt F)),
    binary main_v89 main_v88 main_v90 (Host.divf : (⟨S1x1, .f32⟩ : BufTy).Contents (Elt F) → (⟨S1x1, .f32⟩ : BufTy).Contents (Elt F) → (⟨S1x1, .f32⟩ : BufTy).Contents (Elt F)) ]

/-- What stretch 9 writes. -/
abbrev writes9 : List (Ref sig .tc) := [main_v71, main_v72, main_cst_22, main_v73, main_v74, main_v75, main_v76, main_v77, main_v78, main_v79, main_v80, main_v81, main_v82, main_v83, main_v84, main_v85, main_v86, main_cst_23, main_v87, main_v88, main_cst_24, main_v89, main_v90]

/-- Stretch 9 touches core buffers only. -/
theorem bufs9 : (ops9 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Stretch 9 allocates nothing. -/
theorem fresh9 : ∀ op ∈ (ops9 : List (HloOp τ sig (Elt F))), op.fresh = ∅ := by
  intro _ h
  (repeat (cases h with | head => rfl | tail _ h => ?_))
  exact nomatch h

/-- A buffer that stretch 9 does not write keeps its contents. -/
theorem keep9 (W : Valuation τ sig (Elt F)) (r : Ref sig .tc) (hr : r ∉ writes9) :
    after ops9 W (Proc.devRef .tc r) = W (Proc.devRef .tc r) :=
  after_of_writes_sub ops9 W (forall_writes_sub_of_map (W := writes9) rfl) hr

/-- What stretch 1 leaves in `main_v0`, from what it finds in the buffers it reads. -/
theorem read1_v0 (W : Valuation τ sig (Elt F)) (x0 : Arr F S1x2048x768 .f32) (x3 : Arr F S2x8 .f32) (x6 : Arr F S8x768x768 .f32) (x7 : Arr F S8x768 .f32) (x8 : Arr F S8x768x768 .f32) (x9 : Arr F S8x768 .f32)
    (harg0 : W (Proc.devRef .tc main_arg0) = x0)
    (harg3 : W (Proc.devRef .tc main_arg3) = x3)
    (harg6 : W (Proc.devRef .tc main_arg6) = x6)
    (harg7 : W (Proc.devRef .tc main_arg7) = x7)
    (harg8 : W (Proc.devRef .tc main_arg8) = x8)
    (harg9 : W (Proc.devRef .tc main_arg9) = x9) :
    after ops1 W (Proc.devRef .tc main_v0) = (val_main_v0 (F := F) x0) := by
  simp only [ops1, TRef.binary, TRef.nullary, TRef.ternary, TRef.unary, TRef.toBuf, TRef.ofBuf, cast_eq]
  after_reads_simp
  simp only [harg0, harg3, harg6, harg7, harg8, harg9]
  rfl

/-- What stretch 1 leaves in `main_v24`, from what it finds in the buffers it reads. -/
theorem read1_v24 (W : Valuation τ sig (Elt F)) (x0 : Arr F S1x2048x768 .f32) (x3 : Arr F S2x8 .f32) (x6 : Arr F S8x768x768 .f32) (x7 : Arr F S8x768 .f32) (x8 : Arr F S8x768x768 .f32) (x9 : Arr F S8x768 .f32)
    (harg0 : W (Proc.devRef .tc main_arg0) = x0)
    (harg3 : W (Proc.devRef .tc main_arg3) = x3)
    (harg6 : W (Proc.devRef .tc main_arg6) = x6)
    (harg7 : W (Proc.devRef .tc main_arg7) = x7)
    (harg8 : W (Proc.devRef .tc main_arg8) = x8)
    (harg9 : W (Proc.devRef .tc main_arg9) = x9) :
    after ops1 W (Proc.devRef .tc main_v24) = (val_main_v24 (F := F) x0 x3 x6 x7 x8 x9) := by
  simp only [ops1, TRef.binary, TRef.nullary, TRef.ternary, TRef.unary, TRef.toBuf, TRef.ofBuf, cast_eq]
  after_reads_simp
  simp only [harg0, harg3, harg6, harg7, harg8, harg9]
  rfl

/-- What stretch 2 leaves in `main_v48`, from what it finds in the buffers it reads. -/
theorem read2_v48 (W : Valuation τ sig (Elt F)) (x0 : Arr F S1x2048x768 .f32) (x3 : Arr F S2x8 .f32) (x6 : Arr F S8x768x768 .f32) (x7 : Arr F S8x768 .f32) (x8 : Arr F S8x768x768 .f32) (x9 : Arr F S8x768 .f32)
    (harg3 : W (Proc.devRef .tc main_arg3) = x3)
    (harg6 : W (Proc.devRef .tc main_arg6) = x6)
    (harg7 : W (Proc.devRef .tc main_arg7) = x7)
    (harg8 : W (Proc.devRef .tc main_arg8) = x8)
    (harg9 : W (Proc.devRef .tc main_arg9) = x9)
    (hv0 : W (Proc.devRef .tc main_v0) = (val_main_v0 (F := F) x0)) :
    after ops2 W (Proc.devRef .tc main_v48) = (val_main_v48 (F := F) x0 x3 x6 x7 x8 x9) := by
  simp only [ops2, TRef.binary, TRef.nullary, TRef.ternary, TRef.unary, TRef.toBuf, TRef.ofBuf, cast_eq]
  after_reads_simp
  simp only [harg3, harg6, harg7, harg8, harg9, hv0]
  rfl

/-- What stretch 3 leaves in `main_v51`, from what it finds in the buffers it reads. -/
theorem read3_v51 (W : Valuation τ sig (Elt F)) (x0 : Arr F S1x2048x768 .f32) (x3 : Arr F S2x8 .f32) (x6 : Arr F S8x768x768 .f32) (x7 : Arr F S8x768 .f32) (x8 : Arr F S8x768x768 .f32) (x9 : Arr F S8x768 .f32)
    (hv24 : W (Proc.devRef .tc main_v24) = (val_main_v24 (F := F) x0 x3 x6 x7 x8 x9))
    (hv48 : W (Proc.devRef .tc main_v48) = (val_main_v48 (F := F) x0 x3 x6 x7 x8 x9)) :
    after ops3 W (Proc.devRef .tc main_v51) = (val_main_v51 (F := F) x0 x3 x6 x7 x8 x9) := by
  simp only [ops3, TRef.binary, TRef.nullary, TRef.ternary, TRef.unary, TRef.toBuf, TRef.ofBuf, cast_eq]
  after_reads_simp
  simp only [hv24, hv48]
  rfl

/-- What stretch 4 leaves in `main_v55`, from what it finds in the buffers it reads. -/
theorem read4_v55 (W : Valuation τ sig (Elt F)) (x1 : Arr F S1 .i32)
    (harg1 : W (Proc.devRef .tc main_arg1) = x1) :
    after ops4 W (Proc.devRef .tc main_v55) = (val_main_v55 (F := F) x1) := by
  simp only [ops4, TRef.binary, TRef.nullary, TRef.ternary, TRef.unary, TRef.toBuf, TRef.ofBuf, cast_eq]
  after_reads_simp
  simp only [harg1]
  rfl

/-- What stretch 4 leaves in `main_v58`, from what it finds in the buffers it reads. -/
theorem read4_v58 (W : Valuation τ sig (Elt F)) :
    after ops4 W (Proc.devRef .tc main_v58) = (val_main_v58 (F := F)) := by
  simp only [ops4, TRef.binary, TRef.nullary, TRef.ternary, TRef.unary, TRef.toBuf, TRef.ofBuf, cast_eq]
  after_reads_simp
  rfl

/-- What stretch 4 leaves in `main_v61`, from what it finds in the buffers it reads. -/
theorem read4_v61 (W : Valuation τ sig (Elt F)) :
    after ops4 W (Proc.devRef .tc main_v61) = (val_main_v61 (F := F)) := by
  simp only [ops4, TRef.binary, TRef.nullary, TRef.ternary, TRef.unary, TRef.toBuf, TRef.ofBuf, cast_eq]
  after_reads_simp
  rfl

/-- What stretch 5 leaves in `main_v62`, from what it finds in the buffers it reads. -/
theorem read5_v62 (W : Valuation τ sig (Elt F)) (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32)
    (hv51 : W (Proc.devRef .tc main_v51) = (val_main_v51 (F := F) x0 x3 x6 x7 x8 x9))
    (hv55 : W (Proc.devRef .tc main_v55) = (val_main_v55 (F := F) x1))
    (hv58 : W (Proc.devRef .tc main_v58) = (val_main_v58 (F := F)))
    (hv61 : W (Proc.devRef .tc main_v61) = (val_main_v61 (F := F))) :
    after ops5 W (Proc.devRef .tc main_v62) = (val_main_v62 (F := F) x0 x1 x3 x6 x7 x8 x9) := by
  simp only [ops5, TRef.binary, TRef.nullary, TRef.ternary, TRef.unary, TRef.toBuf, TRef.ofBuf, cast_eq]
  after_reads_simp
  unfold val_main_v62
  rw [hv51]
  refine congrArg (fun g => Host.dynamicSlice S1x2048x768 _ g sliceFits_S2x2048x768_S1x2048x768) (funext fun k => ?_)
  match k with
  | ⟨0, _⟩ => exact congrArg (fun z : Arr F S_ .i32 => (z (Shape.Idx.first h_S_)).toInt) hv55
  | ⟨1, _⟩ => exact congrArg (fun z : Arr F S_ .i32 => (z (Shape.Idx.first h_S_)).toInt) hv58
  | ⟨2, _⟩ => exact congrArg (fun z : Arr F S_ .i32 => (z (Shape.Idx.first h_S_)).toInt) hv61

/-- What stretch 6 leaves in `main_v65`, from what it finds in the buffers it reads. -/
theorem read6_v65 (W : Valuation τ sig (Elt F)) (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32)
    (hv62 : W (Proc.devRef .tc main_v62) = (val_main_v62 (F := F) x0 x1 x3 x6 x7 x8 x9)) :
    after ops6 W (Proc.devRef .tc main_v65) = (val_main_v65 (F := F) x0 x1 x3 x6 x7 x8 x9) := by
  simp only [ops6, TRef.binary, TRef.nullary, TRef.ternary, TRef.unary, TRef.toBuf, TRef.ofBuf, cast_eq]
  after_reads_simp
  simp only [hv62]
  rfl

/-- What stretch 7 leaves in `main_v69`, from what it finds in the buffers it reads. -/
theorem read7_v69 (W : Valuation τ sig (Elt F)) (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32)
    (hv65 : W (Proc.devRef .tc main_v65) = (val_main_v65 (F := F) x0 x1 x3 x6 x7 x8 x9)) :
    after ops7 W (Proc.devRef .tc main_v69) = (val_main_v69 (F := F) x0 x1 x3 x6 x7 x8 x9) := by
  simp only [ops7, TRef.binary, TRef.nullary, TRef.ternary, TRef.unary, TRef.toBuf, TRef.ofBuf, cast_eq]
  after_reads_simp
  simp only [hv65]
  rfl

/-- What stretch 7 leaves in `main_c_21`, from what it finds in the buffers it reads. -/
theorem read7_c_21 (W : Valuation τ sig (Elt F)) :
    after ops7 W (Proc.devRef .tc main_c_21) = (val_main_c_21 (F := F)) := by
  simp only [ops7, TRef.binary, TRef.nullary, TRef.ternary, TRef.unary, TRef.toBuf, TRef.ofBuf, cast_eq]
  after_reads_simp
  rfl

/-- What stretch 8 leaves in `main_v70`, from what it finds in the buffers it reads. -/
theorem read8_v70 (W : Valuation τ sig (Elt F)) (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32)
    (hv65 : W (Proc.devRef .tc main_v65) = (val_main_v65 (F := F) x0 x1 x3 x6 x7 x8 x9))
    (hc_21 : W (Proc.devRef .tc main_c_21) = (val_main_c_21 (F := F))) :
    after ops8 W (Proc.devRef .tc main_v70) = (val_main_v70 (F := F) x0 x1 x3 x6 x7 x8 x9) := by
  simp only [ops8, TRef.binary, TRef.nullary, TRef.ternary, TRef.unary, TRef.toBuf, TRef.ofBuf, cast_eq]
  after_reads_simp
  simp only [hv65, hc_21]
  rfl

/-- What stretch 9 leaves in `main_v90`, from what it finds in the buffers it reads. -/
theorem read9_v90 (W : Valuation τ sig (Elt F)) (x0 : Arr F S1x2048x768 .f32) (x1 : Arr F S1 .i32) (x3 : Arr F S2x8 .f32) (x6 : Arr F S8x768x768 .f32) (x7 : Arr F S8x768 .f32) (x8 : Arr F S8x768x768 .f32) (x9 : Arr F S8x768 .f32) (x10 : Arr F S768 .f32) (x11 : Arr F S768 .f32) (x12 : Arr F S768x1 .f32) (x13 : Arr F S1 .f32)
    (harg10 : W (Proc.devRef .tc main_arg10) = x10)
    (harg11 : W (Proc.devRef .tc main_arg11) = x11)
    (harg12 : W (Proc.devRef .tc main_arg12) = x12)
    (harg13 : W (Proc.devRef .tc main_arg13) = x13)
    (hv65 : W (Proc.devRef .tc main_v65) = (val_main_v65 (F := F) x0 x1 x3 x6 x7 x8 x9))
    (hv69 : W (Proc.devRef .tc main_v69) = (val_main_v69 (F := F) x0 x1 x3 x6 x7 x8 x9))
    (hv70 : W (Proc.devRef .tc main_v70) = (val_main_v70 (F := F) x0 x1 x3 x6 x7 x8 x9)) :
    after ops9 W (Proc.devRef .tc main_v90) = (val_main_v90 (F := F) x0 x1 x3 x6 x7 x8 x9 x10 x11 x12 x13) := by
  simp only [ops9, TRef.binary, TRef.nullary, TRef.ternary, TRef.unary, TRef.toBuf, TRef.ofBuf, cast_eq]
  after_reads_simp
  simp only [harg10, harg11, harg12, harg13, hv65, hv69, hv70]
  rfl

/-- The whole line. -/
abbrev ops : List (HloOp τ sig (Elt F)) :=
  ops1 ++ (ops2 ++ (ops3 ++ (ops4 ++ (ops5 ++ (ops6 ++ (ops7 ++ (ops8 ++ (ops9))))))))

/-- The stretches one after another, from contents `V`: the last leaves the result in `main_v90`. -/
theorem chained (V W1 W2 W3 W4 W5 W6 W7 W8 W9 : Valuation τ sig (Elt F))
    (e1 : W1 = after ops1 V)
    (e2 : W2 = after ops2 W1)
    (e3 : W3 = after ops3 W2)
    (e4 : W4 = after ops4 W3)
    (e5 : W5 = after ops5 W4)
    (e6 : W6 = after ops6 W5)
    (e7 : W7 = after ops7 W6)
    (e8 : W8 = after ops8 W7)
    (e9 : W9 = after ops9 W8) :
    W9 (Proc.devRef .tc main_v90) = val_main_v90 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have h1_v0 : W1 (Proc.devRef .tc main_v0) = val_main_v0 (F := F) (V (Proc.devRef .tc main_arg0)) :=
    (congrFun e1 _).trans (read1_v0 V (V (Proc.devRef .tc main_arg0)) (V (Proc.devRef .tc main_arg3)) (V (Proc.devRef .tc main_arg6)) (V (Proc.devRef .tc main_arg7)) (V (Proc.devRef .tc main_arg8)) (V (Proc.devRef .tc main_arg9)) rfl rfl rfl rfl rfl rfl)
  have h1_v24 : W1 (Proc.devRef .tc main_v24) = val_main_v24 (F := F) (V (Proc.devRef .tc main_arg0)) (V (Proc.devRef .tc main_arg3)) (V (Proc.devRef .tc main_arg6)) (V (Proc.devRef .tc main_arg7)) (V (Proc.devRef .tc main_arg8)) (V (Proc.devRef .tc main_arg9)) :=
    (congrFun e1 _).trans (read1_v24 V (V (Proc.devRef .tc main_arg0)) (V (Proc.devRef .tc main_arg3)) (V (Proc.devRef .tc main_arg6)) (V (Proc.devRef .tc main_arg7)) (V (Proc.devRef .tc main_arg8)) (V (Proc.devRef .tc main_arg9)) rfl rfl rfl rfl rfl rfl)
  have h2_v48 : W2 (Proc.devRef .tc main_v48) = val_main_v48 (F := F) (V (Proc.devRef .tc main_arg0)) (V (Proc.devRef .tc main_arg3)) (V (Proc.devRef .tc main_arg6)) (V (Proc.devRef .tc main_arg7)) (V (Proc.devRef .tc main_arg8)) (V (Proc.devRef .tc main_arg9)) :=
    (congrFun e2 _).trans (read2_v48 W1 (V (Proc.devRef .tc main_arg0)) (V (Proc.devRef .tc main_arg3)) (V (Proc.devRef .tc main_arg6)) (V (Proc.devRef .tc main_arg7)) (V (Proc.devRef .tc main_arg8)) (V (Proc.devRef .tc main_arg9)) ((congrFun e1 _).trans (keep1 _ main_arg3 (by decide))) ((congrFun e1 _).trans (keep1 _ main_arg6 (by decide))) ((congrFun e1 _).trans (keep1 _ main_arg7 (by decide))) ((congrFun e1 _).trans (keep1 _ main_arg8 (by decide))) ((congrFun e1 _).trans (keep1 _ main_arg9 (by decide))) h1_v0)
  have h2_v24 : W2 (Proc.devRef .tc main_v24) = val_main_v24 (F := F) (V (Proc.devRef .tc main_arg0)) (V (Proc.devRef .tc main_arg3)) (V (Proc.devRef .tc main_arg6)) (V (Proc.devRef .tc main_arg7)) (V (Proc.devRef .tc main_arg8)) (V (Proc.devRef .tc main_arg9)) :=
    (congrFun e2 _).trans ((keep2 _ main_v24 (by decide)).trans h1_v24)
  have h3_v51 : W3 (Proc.devRef .tc main_v51) = val_main_v51 (F := F) (V (Proc.devRef .tc main_arg0)) (V (Proc.devRef .tc main_arg3)) (V (Proc.devRef .tc main_arg6)) (V (Proc.devRef .tc main_arg7)) (V (Proc.devRef .tc main_arg8)) (V (Proc.devRef .tc main_arg9)) :=
    (congrFun e3 _).trans (read3_v51 W2 (V (Proc.devRef .tc main_arg0)) (V (Proc.devRef .tc main_arg3)) (V (Proc.devRef .tc main_arg6)) (V (Proc.devRef .tc main_arg7)) (V (Proc.devRef .tc main_arg8)) (V (Proc.devRef .tc main_arg9)) h2_v24 h2_v48)
  have h4_v55 : W4 (Proc.devRef .tc main_v55) = val_main_v55 (F := F) (V (Proc.devRef .tc main_arg1)) :=
    (congrFun e4 _).trans (read4_v55 W3 (V (Proc.devRef .tc main_arg1)) (((congrFun e3 _).trans (keep3 _ main_arg1 (by decide))).trans (((congrFun e2 _).trans (keep2 _ main_arg1 (by decide))).trans ((congrFun e1 _).trans (keep1 _ main_arg1 (by decide))))))
  have h4_v58 : W4 (Proc.devRef .tc main_v58) = val_main_v58 (F := F) :=
    (congrFun e4 _).trans (read4_v58 W3)
  have h4_v61 : W4 (Proc.devRef .tc main_v61) = val_main_v61 (F := F) :=
    (congrFun e4 _).trans (read4_v61 W3)
  have h4_v51 : W4 (Proc.devRef .tc main_v51) = val_main_v51 (F := F) (V (Proc.devRef .tc main_arg0)) (V (Proc.devRef .tc main_arg3)) (V (Proc.devRef .tc main_arg6)) (V (Proc.devRef .tc main_arg7)) (V (Proc.devRef .tc main_arg8)) (V (Proc.devRef .tc main_arg9)) :=
    (congrFun e4 _).trans ((keep4 _ main_v51 (by decide)).trans h3_v51)
  have h5_v62 : W5 (Proc.devRef .tc main_v62) = val_main_v62 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e5 _).trans (read5_v62 W4 (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) h4_v51 h4_v55 h4_v58 h4_v61)
  have h6_v65 : W6 (Proc.devRef .tc main_v65) = val_main_v65 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e6 _).trans (read6_v65 W5 (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) h5_v62)
  have h7_v69 : W7 (Proc.devRef .tc main_v69) = val_main_v69 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e7 _).trans (read7_v69 W6 (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) h6_v65)
  have h7_c_21 : W7 (Proc.devRef .tc main_c_21) = val_main_c_21 (F := F) :=
    (congrFun e7 _).trans (read7_c_21 W6)
  have h7_v65 : W7 (Proc.devRef .tc main_v65) = val_main_v65 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e7 _).trans ((keep7 _ main_v65 (by decide)).trans h6_v65)
  have h8_v70 : W8 (Proc.devRef .tc main_v70) = val_main_v70 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e8 _).trans (read8_v70 W7 (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) h7_v65 h7_c_21)
  have h8_v65 : W8 (Proc.devRef .tc main_v65) = val_main_v65 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e8 _).trans ((keep8 _ main_v65 (by decide)).trans h7_v65)
  have h8_v69 : W8 (Proc.devRef .tc main_v69) = val_main_v69 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) :=
    (congrFun e8 _).trans ((keep8 _ main_v69 (by decide)).trans h7_v69)
  have h9_v90 : W9 (Proc.devRef .tc main_v90) = val_main_v90 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
    (congrFun e9 _).trans (read9_v90 W8 (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (((congrFun e8 _).trans (keep8 _ main_arg10 (by decide))).trans (((congrFun e7 _).trans (keep7 _ main_arg10 (by decide))).trans (((congrFun e6 _).trans (keep6 _ main_arg10 (by decide))).trans (((congrFun e5 _).trans (keep5 _ main_arg10 (by decide))).trans (((congrFun e4 _).trans (keep4 _ main_arg10 (by decide))).trans (((congrFun e3 _).trans (keep3 _ main_arg10 (by decide))).trans (((congrFun e2 _).trans (keep2 _ main_arg10 (by decide))).trans ((congrFun e1 _).trans (keep1 _ main_arg10 (by decide)))))))))) (((congrFun e8 _).trans (keep8 _ main_arg11 (by decide))).trans (((congrFun e7 _).trans (keep7 _ main_arg11 (by decide))).trans (((congrFun e6 _).trans (keep6 _ main_arg11 (by decide))).trans (((congrFun e5 _).trans (keep5 _ main_arg11 (by decide))).trans (((congrFun e4 _).trans (keep4 _ main_arg11 (by decide))).trans (((congrFun e3 _).trans (keep3 _ main_arg11 (by decide))).trans (((congrFun e2 _).trans (keep2 _ main_arg11 (by decide))).trans ((congrFun e1 _).trans (keep1 _ main_arg11 (by decide)))))))))) (((congrFun e8 _).trans (keep8 _ main_arg12 (by decide))).trans (((congrFun e7 _).trans (keep7 _ main_arg12 (by decide))).trans (((congrFun e6 _).trans (keep6 _ main_arg12 (by decide))).trans (((congrFun e5 _).trans (keep5 _ main_arg12 (by decide))).trans (((congrFun e4 _).trans (keep4 _ main_arg12 (by decide))).trans (((congrFun e3 _).trans (keep3 _ main_arg12 (by decide))).trans (((congrFun e2 _).trans (keep2 _ main_arg12 (by decide))).trans ((congrFun e1 _).trans (keep1 _ main_arg12 (by decide)))))))))) (((congrFun e8 _).trans (keep8 _ main_arg13 (by decide))).trans (((congrFun e7 _).trans (keep7 _ main_arg13 (by decide))).trans (((congrFun e6 _).trans (keep6 _ main_arg13 (by decide))).trans (((congrFun e5 _).trans (keep5 _ main_arg13 (by decide))).trans (((congrFun e4 _).trans (keep4 _ main_arg13 (by decide))).trans (((congrFun e3 _).trans (keep3 _ main_arg13 (by decide))).trans (((congrFun e2 _).trans (keep2 _ main_arg13 (by decide))).trans ((congrFun e1 _).trans (keep1 _ main_arg13 (by decide)))))))))) h8_v65 h8_v69 h8_v70)
  exact h9_v90

/-- The line, stretch by stretch. -/
theorem after_ops (V : Valuation τ sig (Elt F)) : after ops V = after ops9 (after ops8 (after ops7 (after ops6 (after ops5 (after ops4 (after ops3 (after ops2 (after ops1 V)))))))) := by
  simp only [ops, after_append]

/-- The arguments. -/
abbrev args : List (Ref sig .tc) := [main_arg0, main_arg1, main_arg2, main_arg3, main_arg4, main_arg5, main_arg6, main_arg7, main_arg8, main_arg9, main_arg10, main_arg11, main_arg12, main_arg13]

/-- No operation writes an argument. -/
theorem after_args (V : Valuation τ sig (Elt F)) (r : Ref sig .tc) (hr : r ∈ args) : after ops V (Proc.devRef .tc r) = V (Proc.devRef .tc r) := by
  rw [after_ops]
  exact (keep9 _ r ((by decide : ∀ r ∈ args, r ∉ writes9) r hr)).trans ((keep8 _ r ((by decide : ∀ r ∈ args, r ∉ writes8) r hr)).trans ((keep7 _ r ((by decide : ∀ r ∈ args, r ∉ writes7) r hr)).trans ((keep6 _ r ((by decide : ∀ r ∈ args, r ∉ writes6) r hr)).trans ((keep5 _ r ((by decide : ∀ r ∈ args, r ∉ writes5) r hr)).trans ((keep4 _ r ((by decide : ∀ r ∈ args, r ∉ writes4) r hr)).trans ((keep3 _ r ((by decide : ∀ r ∈ args, r ∉ writes3) r hr)).trans ((keep2 _ r ((by decide : ∀ r ∈ args, r ∉ writes2) r hr)).trans ((keep1 _ r ((by decide : ∀ r ∈ args, r ∉ writes1) r hr))))))))))

/-- The reference is its line of operations. -/
theorem main_eq (c : Dev nD) : main (F := F) c = seq ops := rfl

/-- The line touches core buffers only. -/
theorem ops_sub : (ops : List (HloOp τ sig (Elt F))).Forall fun op => op.bufs ⊆ tcRefs τ sig := by
  simp only [ops, List.forall_append]
  exact ⟨bufs1, bufs2, bufs3, bufs4, bufs5, bufs6, bufs7, bufs8, bufs9⟩

/-- The reference declares no scoped buffer. -/
theorem scopedRefs_eq : (Finset.univ.filter fun b : Ref sig .tc => b.isScoped) = ∅ := by decide

/-- The reference declares no scoped semaphore. -/
theorem scopedSems_eq : (Finset.univ.filter fun sm : SemLoc sig => sm.isScoped .tc) = ∅ := by decide

/-- The line allocates nothing. -/
theorem ops_fresh : ∀ op ∈ (ops : List (HloOp τ sig (Elt F))), op.fresh = ∅ := by
  simp only [ops, List.mem_append]
  rintro op (h | h | h | h | h | h | h | h | h)
  · exact fresh1 op h
  · exact fresh2 op h
  · exact fresh3 op h
  · exact fresh4 op h
  · exact fresh5 op h
  · exact fresh6 op h
  · exact fresh7 op h
  · exact fresh8 op h
  · exact fresh9 op h

/-- What the whole line leaves in the result buffer. -/
theorem after_result (V : Valuation τ sig (Elt F)) : after ops V (Proc.devRef .tc main_v90) = val_main_v90 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  exact chained V _ _ _ _ _ _ _ _ _ rfl rfl rfl rfl rfl rfl rfl rfl rfl

/-- Every weakly fair execution of the reference ends with its result array at the last stage and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = val_main_v90 (F := F) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ ∀ a ∈ args, r.2.mem ((c.tc : Thread nD τ).loc a) = m ((c.tc : Thread nD τ).loc a) :=
  (θ_run defs _ _).mono
    (fun _ h c => ⟨(h c main_v90).trans (after_result (launchContents m c)),
      fun a ha => (h c a).trans (after_args (launchContents m c) a ha)⟩)
    (run_seq scopedRefs_eq scopedSems_eq defs main (fun _ => ops) main_eq (fun _ => ops_sub) m ρ (fun _ => ops_fresh))

end Cert.Moe.Ref

end
-- ==== Proof.lean ====
/-
  The certificate's claim: the kernel, its idealization and the reference run to the end with their arguments unchanged and
  every semaphore at zero; and on the inputs of the precondition the idealized kernel's result is the reference's.
-/
module

public import proofs.«01_k».proof.Defs
public import proofs.«01_k».proof.Proof.Gen.Kernel.Frame
public import proofs.«01_k».proof.Proof.Gen.KernelIdeal.Frame
public import proofs.«01_k».proof.Proof.Inputs
public import proofs.«01_k».proof.Proof.Agree
public import proofs.«01_k».proof.Proof.RefRun

@[expose] public section

noncomputable section

namespace Cert.Proof

open Idealize.ShloMosaic Idealize.ShloMosaic.TcCoe Idealize.SL.Sem

/-- The kernel runs to the end, its arguments unchanged and every semaphore at zero. -/
theorem kernel_frame : Cert.quiescent_Kernel (hKernel := Cert.Kernel.Gen.facts) :=
  fun m g _ => Cert.Kernel.Gen.frame m g trivial

/-- So does its idealization. -/
theorem ideal_frame : Cert.quiescent_KernelIdeal (hKernelIdeal := Cert.KernelIdeal.Gen.facts) :=
  fun m g _ => Cert.KernelIdeal.Gen.frame m g trivial

/-- So does the reference. -/
theorem reference_frame : Cert.quiescent_ReferenceIdeal (hReferenceIdeal := Cert.ReferenceIdeal.Gen.facts) := fun m g _ =>
  (θ_run Cert.ReferenceIdeal.defs _ _).mono
    (fun r h => ⟨fun c => ⟨(h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩, sem_eq_zero_of_no_sems (by decide) r.2⟩)
    (Cert.Moe.Ref.run (F := Ideal) m g)

/-- The idealized kernel's result is the reference's. -/
theorem value : Cert.algebraic_KernelIdeal_ReferenceIdeal_pre_inputs_as_drawn (hKernelIdeal := Cert.KernelIdeal.Gen.facts)
    (hReferenceIdeal := Cert.ReferenceIdeal.Gen.facts) (hPre_inputs_as_drawn := Cert.Moe.preFacts) := by
  intro m g m' g' hpre hagree
  choose r hr using fun c => Cert.Moe.task m hpre c
  refine ⟨fun c => Cert.Moe.result m c (r c), ?_, ?_⟩
  · exact (θ_run Cert.KernelIdeal.defs _ _).mono
      (fun _ h c => ⟨((h.2 c).1 8).trans (Cert.Moe.final m trivial c (r c) (hr c)), h.1 c⟩)
      (θ_run_and (Cert.KernelIdeal.Gen.unchanged m g trivial) (Cert.KernelIdeal.Gen.run_main m g trivial))
  · refine (θ_run Cert.ReferenceIdeal.defs _ _).mono
      (fun _ h c => ⟨(h c).1.trans ?_, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩) (Cert.Moe.Ref.run (F := Ideal) m' g')
    obtain ⟨e0, e1, _, e3, _, _, e6, e7, e8, e9, e10, e11, e12, e13⟩ := hagree c
    rw [e0, e1, e3, e6, e7, e8, e9, e10, e11, e12, e13]
    exact Cert.Moe.reference_eq m c (r c) (hr c) (Cert.Moe.bias1_zero m hpre c) (Cert.Moe.bias2_zero m hpre c)

/-- All the claims together. -/
theorem claim : Cert.Claim :=
  ⟨Cert.Kernel.Gen.facts, Cert.KernelIdeal.Gen.facts, Cert.ReferenceIdeal.Gen.facts, Cert.Moe.preFacts,
    kernel_frame, ideal_frame, fun m g _ => ideal_frame m g trivial, reference_frame, fun m g _ => reference_frame m g trivial,
    trivial, value⟩

end Cert.Proof

end
